-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 4] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S256x8 : Shape := ⟨2, ![256, 8]⟩
abbrev S2x256x8 : Shape := ⟨3, ![2, 256, 8]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S256x16 : Shape := ⟨2, ![256, 16]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S2x256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v104 : BitVec 32 := Scalar.muli v2 c8_i32_35
  let v105 : BitVec 32 := Scalar.addi c0_i32 v104
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_36 : BitVec 32 := 4#32
  let v106 : BitVec 32 := Scalar.muli v9 c4_i32_36
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v108 : BitVec 32 := Scalar.muli v8 c1_i32_37
  let v109 : BitVec 32 := Scalar.addi v107 v108
  v109.toNat
def k0_dev2 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v110 : BitVec 32 := Scalar.muli v2 c8_i32_41
  let v111 : BitVec 32 := Scalar.addi c0_i32_42 v110
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_43 : BitVec 32 := 4#32
  let v112 : BitVec 32 := Scalar.muli v9 c4_i32_43
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v114 : BitVec 32 := Scalar.muli v8 c1_i32_44
  let v115 : BitVec 32 := Scalar.addi v113 v114
  v115.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .i32⟩
  | .hbm, ⟨3, _⟩ => ⟨S256x2048, .f32⟩
  | .hbm, ⟨4, _⟩ => ⟨S256x2048, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Protocol.lean ====
/-
The exchange between the two devices of a pair, for any float values.

Devices that differ in the mesh's `y` coordinate only form a pair. Each device computes the eight largest values of
its own rows, stores them in slot 0 of its two-slot scratch buffer, meets its partner at the barrier semaphore, copies
slot 0 into slot 1 of the partner's scratch buffer, waits for its own copy and for the partner's, and merges the two
slots' values into the result.

Ownership follows the messages: a device's barrier signal hands its slot 1 to its partner, the partner's copy hands it
back holding the partner's eight values, and the copy's own completion gives slot 0 back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.PairTopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pair protocol's own ghost state: one duty per cell and round. -/
abbrev UPair : Type := URounds (GSem nD τ sig) Unit
/-- The pipeline's ghost state and the pair protocol's. -/
abbrev UBoth : Type := UR sig nD τ × UPair

local notation "𝕄" => MT nD τ sig Unit (Elt F) ℕ UBoth ℕ

abbrev EStage : Emb (UR sig nD τ) (MT nD τ sig Unit (Elt F) ℕ UBoth ℕ) := embL
abbrev EPair : Emb UPair (MT nD τ sig Unit (Elt F) ℕ UBoth ℕ) := embR

variable (m : (ℓ : Loc nD τ sig) → Buf (Elt F) ℓ) (ρ : Dev nD → PrngReg)

/-! ## Values -/

/-- The column numbers of a device's block. -/
abbrev cols : IVec S256x1024 32 := iota .tc S256x1024 32 [1] iota_S256x1024_d1_w32
/-- The column numbers of the sixteen candidates. -/
abbrev cols16 : IVec S256x16 32 := iota .tc S256x16 32 [1] iota_S256x16_d1_w32

/-- The eight values the kernel takes from each row of a block. -/
def localTop (x : FVec F S256x1024 .f32) : FVec F S256x8 .f32 :=
  k0_pay16 cols (k0_pay3 x) (k0_pay5 x) (k0_pay7 x) (k0_pay10 cols (k0_pay6 x) (k0_pay8 x))
    (k0_pay12 cols (k0_pay6 x) (k0_pay8 x)) (k0_pay14 cols (k0_pay6 x) (k0_pay8 x)) (k0_pay15 cols (k0_pay6 x) (k0_pay8 x))

/-- The eight values the kernel takes from each row of two blocks' eight, the second as it is loaded from the scratch
    buffer. -/
def mergeLoaded (a : FVec F S256x8 .f32) (b : FVec F S1x256x8 .f32) : FVec F S256x8 .f32 :=
  k0_pay1 cols16 (k0_pay19 a b) (k0_pay21 (k0_pay20 a b)) (k0_pay23 cols16 (k0_pay20 a b)) (k0_pay25 cols16 (k0_pay20 a b))
    (k0_pay26 cols16 (k0_pay20 a b)) (k0_pay27 cols16 (k0_pay20 a b)) (k0_pay28 cols16 (k0_pay20 a b))

/-- The same of two blocks' eight values. -/
def merge (a b : FVec F S256x8 .f32) : FVec F S256x8 .f32 :=
  mergeLoaded a (shapeCast S1x256x8 b shapeCasts_S256x8_S1x256x8)

/-! ## The pairs -/

/-- The device a device exchanges with: the one whose mesh coordinate `y` is the other, the rest equal. -/
def partner (c : Dev nD) : Dev nD := ⟨k0_dev1 c, k0_dev1_lt c⟩

theorem partner_val (c : Dev nD) : (partner c).val = (8 * (c.val / 8) + (c.val % 4) + 4) - 4 * ((c.val / 4) % 2) := k0_dev1_eq c

theorem partner_partner (c : Dev nD) : partner (partner c) = c := by
  refine Fin.ext ?_
  rw [partner_val, partner_val]
  have := c.isLt
  have h : (nD : ℕ) = 16 := rfl
  omega

theorem copy_target (c : Dev nD) : (⟨k0_dev2 c, k0_dev2_lt c⟩ : Dev nD) = partner c :=
  Fin.ext ((k0_dev2_eq c).trans (partner_val c).symm)

/-- The exchange as a permutation of the devices. -/
def pairing : Dev nD ≃ Dev nD := ⟨partner, partner, partner_partner, partner_partner⟩

theorem partner_eq_iff {a b : Dev nD} : partner a = b ↔ a = partner b :=
  ⟨fun h => by rw [← h, partner_partner], fun h => by rw [h, partner_partner]⟩

/-! ## Buffers -/

abbrev xM : Memref sig .tc .vmem S256x1024 .f32 := Memref.whole cc0_stg0_0
abbrev oM : Memref sig .tc .vmem S256x8 .f32 := Memref.whole cc0_stg1_0
abbrev bufM : Memref sig .tc .vmem S2x256x8 .f32 := Memref.whole cc0_scratch0

/-- Slot 0 of the scratch buffer, as a load or store addresses it; -/
abbrev rect0 : Rect S2x256x8 := Rect.unit (s := S2x256x8) ![0, 0, 0] S1x256x8.size inb_S2x256x8_S1x256x8_0_0_0
/-- slot 1. -/
abbrev rect1 : Rect S2x256x8 := Rect.unit (s := S2x256x8) ![1, 0, 0] S1x256x8.size inb_S2x256x8_S1x256x8_1_0_0

/-- Slot 0, as a copy addresses it; -/
abbrev outSlot : Memref sig .tc .vmem S256x8 .f32 := (bufM.slice rect0 (fun _ => rfl)).squeeze S256x8 squeezes_S1x256x8_S256x8
/-- slot 1. -/
abbrev inSlot : Memref sig .tc .vmem S256x8 .f32 := (bufM.slice rect1 (fun _ => rfl)).squeeze S256x8 squeezes_S1x256x8_S256x8

/-- A device's scratch buffer's contents. -/
abbrev ScratchBuf (F : FTy → Type) (c : Dev nD) : Type := Buf (Elt F) ((c : Thread nD τ).loc cc0_scratch0)

/-- Some elements of a device's scratch buffer, owned at contents `f`. -/
def part (c : Dev nD) (S : Finset (Idx ((c : Thread nD τ).loc cc0_scratch0))) (f : ScratchBuf F c) : sProp 𝕄 :=
  ((c : Thread nD τ).loc cc0_scratch0) ↦[S]{fullShare} f

instance part_storable (c : Dev nD) (S) (f : ScratchBuf F c) : BI.Storable (upEmb : UEmb _ 𝕄) (part c S f) := by
  unfold part; infer_instance

theorem outSlot_set : (outSlot.view : View sig .tc _ _ _).set = (bufM.access rect0 : View sig .tc _ _ _).set := View.set_reshape _ _
theorem inSlot_set : (inSlot.view : View sig .tc _ _ _).set = (bufM.access rect1 : View sig .tc _ _ _).set := View.set_reshape _ _

/-- The slots share no element. -/
theorem slots_disjoint : Disjoint (outSlot.view : View sig .tc _ _ _).set (inSlot.view : View sig .tc _ _ _).set := by
  rw [outSlot_set, inSlot_set]
  exact View.disjoint_slice (Rect.unit_disjoint (0 : Fin 3) (Or.inl (by decide)))

/-- What a device owns of its scratch buffer beside the two slots (nothing, in fact). -/
abbrev leftover : Finset (cc0_scratch0 : Ref sig .tc).ty.Idx :=
  (Finset.univ \ (outSlot.view : View sig .tc _ _ _).set) \ (inSlot.view : View sig .tc _ _ _).set

omit [FloatOps F] in
/-- The scratch buffer, taken apart into its slots. -/
theorem scratch_apart (c : Dev nD) (f : ScratchBuf F c) :
    (((c : Thread nD τ).loc cc0_scratch0) ↦{fullShare} f : sProp 𝕄)
      ⊢ iprop(part c (outSlot.view : View sig .tc _ _ _).set f ∗ part c (inSlot.view : View sig .tc _ _ _).set f ∗ part c leftover f) := by
  have h : (inSlot.view : View sig .tc _ _ _).set ⊆ Finset.univ \ (outSlot.view : View sig .tc _ _ _).set := fun i hi =>
    Finset.mem_sdiff.mpr ⟨Finset.mem_univ _, fun ho => Finset.disjoint_left.mp slots_disjoint ho hi⟩
  unfold part
  exact (pointsTo_split_subset (Finset.subset_univ _)).1.trans (sep_mono_right (pointsTo_split_subset h).1)

omit [FloatOps F] in
/-- And put together again, whatever each part holds. -/
theorem scratch_together (c : Dev nD) (f g h : ScratchBuf F c) :
    iprop(part c (outSlot.view : View sig .tc _ _ _).set f ∗ part c (inSlot.view : View sig .tc _ _ _).set g ∗ part c leftover h)
      ⊢ (iprop(∃ k : ScratchBuf F c, ((c : Thread nD τ).loc cc0_scratch0) ↦{fullShare} k) : sProp 𝕄) := by
  have hs : (inSlot.view : View sig .tc _ _ _).set ⊆ Finset.univ \ (outSlot.view : View sig .tc _ _ _).set := fun i hi =>
    Finset.mem_sdiff.mpr ⟨Finset.mem_univ _, fun ho => Finset.disjoint_left.mp slots_disjoint ho hi⟩
  unfold part
  iintro H
  iexists _
  iapply ((sep_mono_right (pointsTo_join_subset hs)).trans (pointsTo_join_subset (Finset.subset_univ _)))
  iexact H

/-! ## Cells -/

/-- The barrier semaphore the pair meets at. -/
abbrev barS : Sem sig := (SemArray.scalar (sig.barrier 0 rfl) : Sems sig S_).sem

/-- A device's three semaphores: the barrier, its copy's departure, the partner's copy's arrival. -/
abbrev semOf : Fin 3 → SemLoc sig := fun | 0 => .reg barS | 1 => .dma cc0_scratch1.sem | 2 => .dma cc0_scratch2.sem
abbrev cell (c : Dev nD) (k : Fin 3) : GSem nD τ sig := ((c : Thread nD τ), semOf k)

/-- Which of the three a semaphore is. -/
def kind (s : SemLoc sig) : Option (Fin 3) :=
  if s = semOf 0 then some 0 else if s = semOf 1 then some 1 else if s = semOf 2 then some 2 else none

theorem kind_semOf (k : Fin 3) : kind (semOf k) = some k := by fin_cases k <;> decide
theorem semOf_injective : Function.Injective semOf := fun a b h => by
  have := congrArg kind h; rw [kind_semOf, kind_semOf] at this; exact Option.some.inj this
theorem cell_injective : Function.Injective (fun ck : Dev nD × Fin 3 => cell ck.1 ck.2) := fun a b h =>
  Prod.ext (congrArg (fun g : GSem nD τ sig => g.1.1) h) (semOf_injective (congrArg Prod.snd h))

/-- What a copy of one slot adds to a semaphore. -/
abbrev credit : ℕ := (inSlot.view : View sig .tc _ _ _).dmaCredit
theorem credit_pos : 0 < credit := View.dmaCredit_pos _ (by decide)

/-- What each cell's one duty adds to it. -/
def amt : Fin 3 → ℕ := ![1, credit, credit]
theorem amt_pos (k : Fin 3) : 0 < amt k := by
  fin_cases k
  · exact Nat.one_pos
  · exact credit_pos
  · exact credit_pos

/-! ## The schedule -/

/-- A device's block of the operand, as its staging buffer holds it. -/
def block (c : Dev nD) : FVec F S256x1024 .f32 := iblk m c 0 t0_0

/-- What the payer of a cell's duty hands the cell's owner: with the barrier signal the payer's slot 1 and that its
    arrival cell is open; with the departed copy slot 0 back; with the arrived copy slot 1 back, holding the
    partner's eight values. -/
def handed (c : Dev nD) : Fin 3 → sProp 𝕄
  | 0 => iprop((∃ f, part (partner c) (inSlot.view : View sig .tc _ _ _).set f) ∗ reached EPair (cell (partner c) 2) 0)
  | 1 => iprop(∃ f, part c (outSlot.view : View sig .tc _ _ _).set f)
  | 2 => iprop(∃ f, ⌜(inSlot.view : View sig .tc _ _ _).read (Elt F) f = localTop (block m (partner c))⌝
      ∗ part c (inSlot.view : View sig .tc _ _ _).set f)

instance handed_storable (c : Dev nD) (k : Fin 3) : BI.Storable (upEmb : UEmb _ 𝕄) (handed m c k) := by
  fin_cases k <;> (dsimp only [handed]; infer_instance)

/-- One round: every one of a device's three cells has one duty in it. -/
def sched : Rounds.Schedule (GSem nD τ sig) Unit 𝕄 where
  duties g r := if r = 0 ∧ g.1.2 = .tc ∧ (kind g.2).isSome then {()} else ∅
  unitless _ := False
  amount g _ _ := (kind g.2).elim 1 amt
  payload g _ _ := (kind g.2).elim iprop(emp) (handed m g.1.1)
  amount_pos g _ _ _ := by
    cases kind g.2 with
    | none => exact Nat.one_pos
    | some k => exact amt_pos k

instance sched_storable (g : GSem nD τ sig) (r : ℕ) (d : Unit) :
    BI.Storable (upEmb : UEmb _ 𝕄) ((sched (F := F) m).payload g r d) := by
  show BI.Storable upEmb ((kind g.2).elim iprop(emp) (handed m g.1.1))
  cases kind g.2 with
  | none => dsimp only [Option.elim]; infer_instance
  | some k => dsimp only [Option.elim]; infer_instance

section Facts
variable (c : Dev nD) (k : Fin 3)

theorem duties_cell : (sched (F := F) m).duties (cell c k) 0 = {()} := by
  dsimp only [sched]; exact if_pos ⟨rfl, rfl, by rw [kind_semOf]; rfl⟩
theorem mem_duties : () ∈ (sched (F := F) m).duties (cell c k) 0 := by rw [duties_cell]; exact Finset.mem_singleton_self _
theorem duties_after (g : GSem nD τ sig) : ∀ r, 1 ≤ r → (sched (F := F) m).duties g r = ∅ :=
  fun r hr => by dsimp only [sched]; exact if_neg fun h => by omega
theorem amount_cell : (sched (F := F) m).amount (cell c k) 0 () = amt k := by
  dsimp only [sched]; rw [kind_semOf]; rfl
theorem payload_cell : (sched (F := F) m).payload (cell c k) 0 () = handed m c k := by
  dsimp only [sched]; rw [kind_semOf]; rfl
theorem expect_cell : (sched (F := F) m).expect (cell c k) 0 = amt k := by
  unfold Schedule.expect Schedule.amountOf; rw [duties_cell, Finset.sum_singleton, amount_cell]
theorem whole_round :
    bigSep ((sched (F := F) m).duties (cell c k) 0 \ ∅) (fun u => (sched (F := F) m).payload (cell c k) 0 u) = handed m c k := by
  rw [Finset.sdiff_empty, duties_cell, bigSep_singleton, payload_cell]

end Facts

/-! ## What each device owes, and the levels -/

/-- At the start a device owes its partner's arrival cell a copy and its partner's barrier a unit. -/
def owed₀ (c : Dev nD) : CellTallies nD τ sig Unit :=
  tallyAt (cell (partner c) 2) () credit + tallyAt (cell (partner c) 0) () 1

def LL (g : GSem nD τ sig) : Finset Unit := if g.1.2 = .tc then {()} else ∅
/-- The barrier below the arrival; the rest below both. -/
def level (g : GSem nD τ sig) (_ : Unit) : ℕ := match kind g.2 with
  | some 0 => 1
  | some 2 => 2
  | _ => 0

theorem LL_other (g : GSem nD τ sig) (h : g.1.2 ≠ .tc) : LL g = ∅ := if_neg h
theorem mem_LL (c : Dev nD) (s : SemLoc sig) : () ∈ LL ((c : Thread nD τ), s) := by
  rw [show LL ((c : Thread nD τ), s) = {()} from if_pos rfl]; exact Finset.mem_singleton_self _
theorem level_bar (c : Dev nD) : level (cell c 0) () = 1 := by unfold level; rw [show kind (cell c 0).2 = some 0 from kind_semOf 0]; rfl
theorem level_arrive (c : Dev nD) : level (cell c 2) () = 2 := by unfold level; rw [show kind (cell c 2).2 = some 2 from kind_semOf 2]; rfl

theorem owed₀_pos {c : Dev nD} {g : GSem nD τ sig} {u : Unit} (h : 0 < owed₀ c g u) :
    g = cell (partner c) 2 ∨ g = cell (partner c) 0 := by
  have hsum : owed₀ c g u = (if g = cell (partner c) 2 ∧ u = () then credit else 0) + (if g = cell (partner c) 0 ∧ u = () then 1 else 0) :=
    congrArg₂ (· + ·) (tallyAt_apply ..) (tallyAt_apply ..)
  by_cases h2 : g = cell (partner c) 2
  · exact Or.inl h2
  by_cases h0 : g = cell (partner c) 0
  · exact Or.inr h0
  simp only [h2, h0, false_and, if_false] at hsum
  omega

omit [FloatOps F] in
/-- A staging semaphore may be waited for at any time: it lies below everything owed. -/
theorem mayWait_staging (c : Dev nD) (q : DmaSem sig) (hq : kind (.dma q) = none) (O : CellTallies nD τ sig Unit)
    (hO : O = owed₀ c ∨ O = 0) : (levAts LL level : sProp 𝕄) ⊢ MayWait (c : Thread nD τ) (.dma q) () O := by
  rcases hO with rfl | rfl
  · refine MayOwe.of_cut (L := LL) (lev := level) 0 (fun p hp => by rw [Finset.mem_singleton.mp hp]; exact mem_LL c _)
      (fun g u hg => by rcases owed₀_pos hg with rfl | rfl <;> exact mem_LL _ _)
      (fun p hp => by rw [Finset.mem_singleton.mp hp]; dsimp only [level]; rw [hq])
      (fun g u hg => by
        rcases owed₀_pos hg with rfl | rfl
        · rw [level_arrive]; decide
        · rw [level_bar]; decide)
  · rw [MayWait_zero]; iintro -; iempintro

omit [FloatOps F] in
/-- At the barrier a device owes only its partner's arrival cell, above the barrier. -/
theorem mayWait_barrier (c : Dev nD) :
    (levAts LL level : sProp 𝕄) ⊢ MayWait (c : Thread nD τ) (semOf 0) () (tallyAt (cell (partner c) 2) () credit) := by
  have hpos : ∀ (g : GSem nD τ sig) (u : Unit), 0 < (tallyAt (cell (partner c) 2) () credit : CellTallies nD τ sig Unit) g u → g = cell (partner c) 2 :=
    fun g u hg => by
      rw [tallyAt_apply] at hg
      by_contra h
      rw [if_neg (fun h' => h h'.1)] at hg
      exact Nat.lt_irrefl 0 hg
  exact MayOwe.of_cut (L := LL) (lev := level) 1 (fun p hp => by rw [Finset.mem_singleton.mp hp]; exact mem_LL c _)
    (fun g u hg => by rw [hpos g u hg]; exact mem_LL _ _)
    (fun p hp => by rw [Finset.mem_singleton.mp hp]; exact le_of_eq (level_bar c))
    (fun g u hg => by rw [hpos g u hg, level_arrive]; decide)

/-! ## The ghost state and the pipeline's data -/

/-- Every cell's invariant, under the names `K`, and that every cell is in its round: shared knowledge. -/
def shared (K : Dev nD × Fin 3 → ℕ) : sProp 𝕄 :=
  iprop((bigSep Finset.univ fun ck : Dev nD × Fin 3 => cellInv EPair (sched m) (K ck) (cell ck.1 ck.2))
    ∗ bigSep Finset.univ fun ck : Dev nD × Fin 3 => reached EPair (cell ck.1 ck.2) 0)

instance shared_persistent (K : Dev nD × Fin 3 → ℕ) : BI.Persistent (shared m K) := by unfold shared; infer_instance

theorem shared_inv (K : Dev nD × Fin 3 → ℕ) (c : Dev nD) (k : Fin 3) :
    shared m K ⊢ cellInv EPair (sched m) (K (c, k)) (cell c k) := by
  unfold shared
  exact sep_elim_left.trans (bigSep_elim (Φ := fun ck : Dev nD × Fin 3 => cellInv EPair (sched m) (K ck) (cell ck.1 ck.2)) (Finset.mem_univ (c, k)))
theorem shared_reached (K : Dev nD × Fin 3 → ℕ) (c : Dev nD) (k : Fin 3) :
    shared m K ⊢ reached EPair (cell c k) 0 := by
  unfold shared
  exact sep_elim_right.trans (bigSep_elim (Φ := fun ck : Dev nD × Fin 3 => (reached EPair (cell ck.1 ck.2) 0 : sProp 𝕄)) (Finset.mem_univ (c, k)))

/-- A device's positions in its cells. -/
def places (c : Dev nD) : sProp 𝕄 :=
  iprop(atPos EPair (cell c 0) 0 ∅ 0 ∗ atPos EPair (cell c 1) 0 ∅ 0 ∗ atPos EPair (cell c 2) 0 ∅ 0)
/-- The tokens of the duties a device pays: its partner's barrier, its own departure, its partner's arrival. -/
def duties (c : Dev nD) : sProp 𝕄 :=
  iprop(dutyTok EPair (cell (partner c) 0) 0 () ∗ dutyTok EPair (cell c 1) 0 () ∗ dutyTok EPair (cell (partner c) 2) 0 ())

/-- What the launch gives a device of the protocol. -/
def share₀ (c : Dev nD) : sProp 𝕄 := iprop(∃ K, shared m K ∗ places c ∗ duties c)

/-- What a device's body starts from, beside its scratch buffer. -/
def begin₀ (c : Dev nD) : sProp 𝕄 :=
  iprop(share₀ m c ∗ cred (tallyAt (cell c 0) () 1) ∗ cred (tallyAt (cell c 2) () credit) ∗ levAts LL level)

/-- Before the body; -/
def before₀ (c : Dev nD) : sProp 𝕄 :=
  iprop(begin₀ m c ∗ ∃ f : ScratchBuf F c, ((c : Thread nD τ).loc cc0_scratch0) ↦{fullShare} f)
/-- after it: the scratch buffer at some contents and every semaphore at zero. -/
def after₀ (c : Dev nD) : sProp 𝕄 :=
  iprop((∃ f : ScratchBuf F c, ((c : Thread nD τ).loc cc0_scratch0) ↦{fullShare} f)
    ∗ semVal (cell c 0) 0 ∗ semVal (cell c 1) 0 ∗ semVal (cell c 2) 0)

/-- A device's result. -/
def result (c : Dev nD) : FVec F S256x8 .f32 := merge (localTop (block m c)) (localTop (block m (partner c)))

def dats (_ : Fin 1) (c : Dev nD) : Dat τ (Elt F) Unit ℕ UBoth ℕ cfg0 c where
  A w := m ((cfg0.win w).arr.view.loc (c : Thread nD τ))
  after w _ := match w with
    | ⟨0, _⟩ => block m c
    | ⟨1, _⟩ => result m c
  Φ t := match t with
    | ⟨0, _⟩ => before₀ m c
    | ⟨_ + 1, _⟩ => after₀ c
  q _ := fullShare
  owed t := match t with
    | ⟨0, _⟩ => owed₀ c
    | ⟨_ + 1, _⟩ => 0

abbrev 𝒱₀ : Variants := Variants.none

/-! ## What the loads and stores see -/

omit [FloatOps F] in
theorem zero2 : (![0, 0] : Fin 2 → Nat) = fun _ => 0 := funext fun a => by fin_cases a <;> rfl
omit [FloatOps F] in
theorem load_x (f : (cc0_stg0_0 : Ref sig .tc).ty.Contents (Elt F)) :
    xM.view.readAt (Elt F) (Rect.unit (s := S256x1024) ![0, 0] S256x1024.size inb_S256x1024_S256x1024_0_0).toLoadRect f = f :=
  Memref.readAt_unit_zero (Elt F) cc0_stg0_0 zero2 _ f
omit [FloatOps F] in
theorem store_out (f w : (cc0_stg1_0 : Ref sig .tc).ty.Contents (Elt F)) :
    (oM.access (Rect.unit (s := S256x8) ![0, 0] S256x8.size inb_S256x8_S256x8_0_0) : View sig .tc _ _ _).write (Elt F) f w Finset.univ = w :=
  Memref.write_access_unit_zero_univ (Elt F) cc0_stg1_0 zero2 _ f w

omit [FloatOps F] in
/-- A copy out of slot 0 reads what was stored there. -/
theorem read_stored (f : (cc0_scratch0 : Ref sig .tc).ty.Contents (Elt F)) (w : FVec F S256x8 .f32) :
    outSlot.view.read (Elt F) ((bufM.access rect0 : View sig .tc _ _ _).write (Elt F) f
      (shapeCast S1x256x8 w shapeCasts_S256x8_S1x256x8) Finset.univ) = w := by
  funext i
  have h := congrFun (View.read_write_univ (v := (bufM.access rect0 : View sig .tc _ _ _)) (Val := Elt F) f
    (shapeCast S1x256x8 w shapeCasts_S256x8_S1x256x8)) (Shape.reshapeEquiv (by decide : S256x8.numel = S1x256x8.numel) i)
  refine Eq.trans h ?_
  show w (Shape.reshapeEquiv _ (Shape.reshapeEquiv _ i)) = w i
  rw [Shape.reshapeEquiv_reshapeEquiv, Shape.reshapeEquiv_self]

omit [FloatOps F] in
/-- A load of slot 1 reads what a copy into it left there. -/
theorem load_arrived (f : (cc0_scratch0 : Ref sig .tc).ty.Contents (Elt F)) (w : FVec F S256x8 .f32)
    (h : inSlot.view.read (Elt F) f = w) :
    bufM.view.readAt (Elt F) rect1.toLoadRect f = shapeCast S1x256x8 w shapeCasts_S256x8_S1x256x8 := by
  subst h
  funext i
  show _ = (bufM.access rect1 : View sig .tc _ _ _).read (Elt F) f (Shape.reshapeEquiv _ (Shape.reshapeEquiv _ i))
  rw [Shape.reshapeEquiv_reshapeEquiv, Shape.reshapeEquiv_self]
  rfl

/-! ## The body -/

section Body

variable (K : Dev nD × Fin 3 → ℕ)

/-- The copy of slot 0 into the partner's slot 1, paying the departure and the partner's arrival. -/
theorem send_step (c n : Dev nD) (hn : n = partner c)
    {hsc : (inSlot : Memref sig (Dev.tc n : Thread nD τ).2.kind .vmem S256x8 .f32).view.ref.isScScratch = false}
    {hsrc : (outSlot : Memref sig .tc .vmem S256x8 .f32).view.WordExact} {hdst : (inSlot : Memref sig .tc .vmem S256x8 .f32).view.WordExact}
    {hsem : DmaTarget.Typed .vmem (.dma cc0_scratch2.sem) (.remote (Dev.tc n : Thread nD τ) (inSlot : Memref sig .tc .vmem S256x8 .f32) (.dma cc0_scratch1.sem) hsc)}
    {α : Type} {Q : α → sProp 𝕄} {k : PUnit → Prog (TpuEff nD τ sig (Elt F) Λ₀ .tc) α}
    (fs : ScratchBuf F c) (hfs : outSlot.view.read (Elt F) fs = localTop (block m c))
    (fd : ScratchBuf F (partner c)) (W : Waits sig Unit) :
    iprop(shared m K ∗ part c (outSlot.view : View sig .tc _ _ _).set fs ∗ part (partner c) (inSlot.view : View sig .tc _ _ _).set fd
        ∗ owes (c : Thread nD τ) (tallyAt (cell (partner c) 2) () credit) W
        ∗ dutyTok EPair (cell c 1) 0 () ∗ dutyTok EPair (cell (partner c) 2) 0 ())
      ⊢ iprop(((cred (tallyAt (cell c 1) () credit) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma outSlot (.remote (Dev.tc n : Thread nD τ) inSlot (.dma cc0_scratch1.sem) hsc) (.dma cc0_scratch2.sem) hsrc hdst hsem) k) Q) := by
  subst hn
  unfold part
  refine BIBase.Entails.trans ?_ (Rounds.wp_send_pointsTo
    𝒱₀ EPair (sched m) (c : Thread nD τ) none (κ₁ := K (c, 1)) (κ₂ := K (partner c, 2))
    (r₁ := 0) (r₂ := 0) (d₁ := ()) (d₂ := ()) (q := fullShare) (fs := fs) (fd := fd)
    (mem_duties m c 1) (mem_duties m (partner c) 2) () () credit rfl (amount_cell m c 1) (amount_cell m (partner c) 2)
    0 (by rw [zero_add]) (W := W)
    (by rw [payload_cell m c 1]; dsimp only [handed]; unfold part; iintro H; iexists fs; iexact H)
    (by
      rw [payload_cell m (partner c) 2]; dsimp only [handed]; unfold part; rw [partner_partner]
      iintro H; iexists (inSlot.view.write (Elt F) fd (outSlot.view.read (Elt F) fs) Finset.univ)
      isplitr
      · ipureintro; exact (View.read_write_univ _ _).trans hfs
      · iexact H))
  iintro ⟨#HS, Hs, Hd, HO, Ht1, Ht2⟩
  isplitr; · iapply (shared_inv m K c 1); iexact HS
  isplitr; · iapply (shared_inv m K (partner c) 2); iexact HS
  isplitl [Hs]; · iexact Hs
  isplitl [Hd]; · iexact Hd
  isplitl [HO]; · iexact HO
  isplitl [Ht1]; · iexact Ht1
  isplitr; · iapply (shared_reached m K c 1); iexact HS
  isplitl [Ht2]; · iexact Ht2
  iapply (shared_reached m K (partner c) 2); iexact HS

/-- A wait of a device on one of its own three cells, for all of the cell's one round: the device comes back with what
    the payer handed over. -/
theorem wait_step (c : Dev nD) (k : Fin 3) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (semOf k) (amt k) Q)
    {O : CellTallies nD τ sig Unit} (hO : (levAts LL level : sProp 𝕄) ⊢ MayWait (c : Thread nD τ) (semOf k) () O)
    {α : Type} {Q : α → sProp 𝕄} {next : PUnit → Prog (TpuEff nD τ sig (Elt F) Λ₀ .tc) α} (W : Waits sig Unit) :
    iprop(shared m K ∗ levAts LL level ∗ cred (tallyAt (cell c k) () (amt k)) ∗ owes (c : Thread nD τ) O W ∗ atPos EPair (cell c k) 0 ∅ 0)
      ⊢ iprop(((owes (c : Thread nD τ) O (insert (semOf k, ()) W) ∗ atPos EPair (cell c k) 1 ∅ 0 ∗ handed m c k)
            -∗ wp frame (wpE (defs₀ (F := F)) 𝒱₀ (c : Thread nD τ) none) Set.univ (next ⟨⟩) Q)
          -∗ wp frame (wpE (defs₀ (F := F)) 𝒱₀ (c : Thread nD τ) none) Set.univ (.op w next) Q) := by
  iintro ⟨#HS, #Hlev, Hc, HO, Hat⟩ Hk
  iapply (Rounds.wp_wait_rest_token 𝒱₀ EPair (sched m) (c : Thread nD τ) none (κ := K (c, k)) hw (Set.mem_univ _) ()
    (O := O) (W := W) (R := 0) (m := 0) (T := ∅) ((Nat.zero_add _).trans (expect_cell m c k).symm)) $$ [Hc HO Hat]
  · isplitr; · iapply (shared_inv m K c k); iexact HS
    isplitl [Hc]; · iexact Hc
    isplitl [HO]; · iexact HO
    isplitr; · iapply hO; iexact Hlev
    iexact Hat
  iintro ⟨HO, Hat, -, Hpay⟩
  iapply Hk
  isplitl [HO]; · iexact HO
  isplitl [Hat]; · iexact Hat
  iapply (Entails.of_eq (whole_round m c k)); iexact Hpay

/-- After its round a cell is closed, its counter at zero. -/
theorem close_step (c : Dev nD) (k : Fin 3) :
    iprop(shared m K ∗ atPos EPair (cell c k) 1 ∅ 0) ⊢ (iprop(|={Set.univ}=> semVal (cell c k) 0) : sProp 𝕄) := by
  iintro ⟨#HS, Hat⟩
  iapply (Rounds.cell_close EPair (sched m) (Set.mem_univ (K (c, k))) (fun h => h) (R := 1) (duties_after m (cell c k)))
  isplitr; · iapply (shared_inv m K c k); iexact HS
  iexact Hat

/-- Who owes nothing may wait. -/
theorem mayWait_none (c : Dev nD) (k : Fin 3) : (levAts LL level : sProp 𝕄) ⊢ MayWait (c : Thread nD τ) (semOf k) () 0 := by
  rw [MayWait_zero]
  iintro -
  iempintro

/-- A whole buffer of a device, at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, -/
def bodyIn (c : Dev nD) : sProp 𝕄 :=
  iprop(before₀ m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))
/-- and what it takes back. -/
def bodyOut (c : Dev nD) : sProp 𝕄 :=
  iprop(after₀ c ∗ (dats m 0 c).owesAt () t0_0.succ ∗ held c cc0_stg0_0 (block m c) ∗ held c cc0_stg1_0 (result m c))

set_option maxHeartbeats 1600000 in
set_option maxRecDepth 8000 in
/-- The body run through, one step per operation in program order. -/
theorem body_runs (c : Dev nD) :
    bodyIn m c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyOut m c) := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyIn before₀ begin₀ share₀ places duties
  iintro ⟨⟨⟨⟨%K, #HS, ⟨HatB, HatS, HatV⟩, HtB, HtS, HtV⟩, HcB, HcV, #Hlev⟩, ⟨%f0, Hscr⟩⟩,
    Ho, ⟨%d0, %g0, %hg0, Hx⟩, ⟨%d1, %g1, %hg1, Hout⟩⟩
  have hx : g0 = block m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = owed₀ c from rfl]
  ihave Hparts := (scratch_apart c f0) $$ Hscr
  icases Hparts with ⟨Hs0, Hs1, Hrest⟩
  -- the block is loaded; slot 0 is loaded (to no use) and the block's eight values stored in it
  iapply (wp_load 𝒱₀ (c : Thread nD τ) none Set.univ (m := xM) (Finset.subset_univ _)) $$ Hx; iintro Hx
  rw [load_x]
  unfold part
  iapply (wp_load_rect 𝒱₀ (c : Thread nD τ) none Set.univ (m := bufM) (r := rect0) outSlot_set.symm.subset) $$ Hs0; iintro Hs0
  iapply (wp_store 𝒱₀ (c : Thread nD τ) none Set.univ (m := bufM) (r := rect0) (Mk := Finset.univ) outSlot_set.symm.subset) $$ Hs0; iintro Hs0
  -- the signal: slot 1 goes to the partner
  unfold owed₀
  iapply (Rounds.wp_signal 𝒱₀ EPair (sched m) (c : Thread nD τ) none (dst := (partner c : Thread nD τ)) (κ := K (partner c, 0))
      (d := ()) (mem_duties m (partner c) 0) ((amount_cell m (partner c) 0).trans (by decide)) () (tallyAt (cell (partner c) 2) () credit) rfl)
    $$ [HO HtB Hs1]
  · isplitr; · iapply (shared_inv m K (partner c) 0); iexact HS
    isplitl [HO]; · iexact HO
    isplitl [HtB]; · iexact HtB
    isplitl [Hs1]
    · rw [payload_cell m (partner c) 0]; dsimp only [handed]; rw [partner_partner]
      isplitl [Hs1]; · iexists f0; unfold part; iexact Hs1
      iapply (shared_reached m K c 2); iexact HS
    · iapply (shared_reached m K (partner c) 0); iexact HS
  iintro HO
  -- the barrier: the partner's slot 1 comes
  iapply (wait_step m K c 0 (fun _ => rfl) (mayWait_barrier c) W) $$ [HcB HO HatB]
  · isplitr; · iexact HS
    isplitr; · iexact Hlev
    isplitl [HcB]; · iexact HcB
    isplitl [HO] <;> iassumption
  dsimp only [handed]
  iintro ⟨HO, HatB, ⟨%fn, Hs1⟩, -⟩
  -- the copy into it
  iapply (send_step m K c _ (copy_target c) _ (read_stored _ _) fn (insert (semOf 0, ()) W)) $$ [Hs0 Hs1 HO HtS HtV]
  · isplitr; · iexact HS
    isplitl [Hs0]; · unfold part; iexact Hs0
    isplitl [Hs1]; · iexact Hs1
    isplitl [HO]; · iexact HO
    isplitl [HtS]; · iexact HtS
    iexact HtV
  iintro ⟨HcS, HO⟩
  -- its departure: slot 0 comes back
  iapply (wait_step m K c 1 (fun _ => rfl) (mayWait_none c 1) (insert (semOf 0, ()) W)) $$ [HcS HO HatS]
  · isplitr; · iexact HS
    isplitr; · iexact Hlev
    isplitl [HcS]; · iexact HcS
    isplitl [HO] <;> iassumption
  dsimp only [handed]
  iintro ⟨HO, HatS, %fs, Hs0⟩
  -- the partner's copy's arrival: slot 1 comes back
  iapply (wait_step m K c 2 (fun _ => rfl) (mayWait_none c 2) (insert (semOf 1, ()) (insert (semOf 0, ()) W))) $$ [HcV HO HatV]
  · isplitr; · iexact HS
    isplitr; · iexact Hlev
    isplitl [HcV]; · iexact HcV
    isplitl [HO] <;> iassumption
  dsimp only [handed]
  iintro ⟨HO, HatV, %fr, %hfr, Hs1⟩
  -- the three cells are closed
  imod (close_step m K c 0) $$ [HatB] with HzB
  · isplitr; · iexact HS
    iexact HatB
  imod (close_step m K c 1) $$ [HatS] with HzS
  · isplitr; · iexact HS
    iexact HatS
  imod (close_step m K c 2) $$ [HatV] with HzV
  · isplitr; · iexact HS
    iexact HatV
  -- slot 1 is loaded, the result stored
  unfold part
  iapply (wp_load_rect 𝒱₀ (c : Thread nD τ) none Set.univ (m := bufM) (r := rect1) inSlot_set.symm.subset) $$ Hs1; iintro Hs1
  iapply (wp_load 𝒱₀ (c : Thread nD τ) none Set.univ (m := oM) (Finset.subset_univ _)) $$ Hout; iintro Hout
  iapply (wp_store 𝒱₀ (c : Thread nD τ) none Set.univ (m := oM)
    (r := Rect.unit (s := S256x8) ![0, 0] S256x8.size inb_S256x8_S256x8_0_0) (Mk := Finset.univ) (Finset.subset_univ _)) $$ Hout; iintro Hout
  rw [store_out, wp_ret]; imodintro
  unfold bodyOut after₀ Dat.owesAt Pipeline.owesWithin
  rw [show (dats m 0 c).owed t0_0.succ = 0 from rfl]
  isplitl [Hs0 Hs1 Hrest HzB HzS HzV]
  · isplitl [Hs0 Hs1 Hrest]
    · iapply (scratch_together c fs fr f0)
      unfold part
      isplitl [Hs0]; · iexact Hs0
      isplitl [Hs1]; · iexact Hs1
      iexact Hrest
    isplitl [HzB]; · iexact HzB
    isplitl [HzS]; · iexact HzS
    iexact HzV
  isplitl [HO]
  · iexists (insert (semOf 2, ()) (insert (semOf 1, ()) (insert (semOf 0, ()) W)))
    isplitr; · ipureintro; exact fun _ _ => Or.inl trivial
    iexact HO
  isplitl [Hx]
  · iexists _; isplitr; · (ipureintro; rfl)
    iexact Hx
  iexists _
  isplitr
  · ipureintro
    exact congrArg (mergeLoaded (localTop (block m c))) (load_arrived fr _ hfr)
  iexact Hout

end Body

end Cert.PairTopK

end
-- ==== Proof.Run.lean ====
/-
The run of the program on the whole mesh: from any memory with its semaphores at zero every execution ends, with the
operand as it was, every semaphore at zero and each device's result at the merged eight values of its pair.
-/
module

public import proofs.«01_k».proof.Proof.Protocol
public import Idealize.ShloMosaic.Lib.Pipeline.CollectiveSegs

@[expose] public section

noncomputable section

namespace Cert.PairTopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UBoth ℕ

variable (m : (ℓ : Loc nD τ sig) → Buf (Elt F) ℓ) (ρ : Dev nD → PrngReg)

/-! ## The body, as the pipeline asks for it -/

set_option maxRecDepth 8000 in
theorem body_obligation (c : Dev nD) : BodyObligation (dats (F := F) m 0 c) (defs₀ (F := F)) 𝒱₀ () Set.univ := fun t => by
  rw [fin_N0 t]
  rw [bigSep_W0, bigSep_W0]
  simp only [Idealize.ShloMosaic.owns_whole_eq]
  exact body_runs m c

/-! ## Dealing out the ghost state -/

/-- The kernel's own two semaphores: departure and arrival. -/
abbrev ownSem : Fin 2 → SemLoc sig := fun | 0 => semOf 1 | 1 => semOf 2

theorem ownSem_facts : Pipeline.OwnSemFacts cfg0.spec ownSem := by decide

theorem share_full (c : Dev nD) (w : Fin cfg0.W) : (dats m 0 c).share w = fullShare := by unfold Dat.share; split <;> rfl

/-- All the protocol's cells, -/
def allCells : Finset (GSem nD τ sig) := Finset.univ.map ⟨fun ck : Dev nD × Fin 3 => cell ck.1 ck.2, cell_injective⟩
/-- and the token of each one's duty. -/
def allToks : Finset (GSem nD τ sig × ℕ × Unit) :=
  Finset.univ.map ⟨fun ck : Dev nD × Fin 3 => (cell ck.1 ck.2, 0, ()), fun a b h => cell_injective (congrArg Prod.fst h)⟩

def ghost₀ : UBoth := (initOf (Pipeline.cells cfgs cellOf_inj) (Pipeline.launchToks cfgs cellOf_inj), initOf allCells allToks)

/-- The launch's part for one device: its three cells' states, positions, marks and tokens. -/
def dealt (c : Dev nD) : sProp 𝕄 :=
  iprop((bigSep Finset.univ fun k : Fin 3 => roundState EPair (sched m) (cell c k) 0)
    ∗ (bigSep Finset.univ fun k : Fin 3 => atPos EPair (cell c k) 0 ∅ 0)
    ∗ (bigSep Finset.univ fun k : Fin 3 => reached EPair (cell c k) 0)
    ∗ bigSep Finset.univ fun k : Fin 3 => dutyTok EPair (cell c k) 0 ())

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

theorem deal : BI.own (EPair (initOf allCells allToks)) ⊢ (|==> bigSep Finset.univ (dealt m) : sProp 𝕄) := by
  have hc (Φ : GSem nD τ sig → sProp 𝕄) :
      bigSep allCells Φ = bigSep Finset.univ fun c : Dev nD => bigSep Finset.univ fun k : Fin 3 => Φ (cell c k) := by
    unfold allCells; rw [bigSep_map, bigSep_univ_prod]; rfl
  have ht : bigSep allToks (fun x => (dutyTok EPair x.1 x.2.1 x.2.2 : sProp 𝕄))
      = bigSep Finset.univ fun c : Dev nD => bigSep Finset.univ fun k : Fin 3 => dutyTok EPair (cell c k) 0 () := by
    unfold allToks; rw [bigSep_map, bigSep_univ_prod]; rfl
  iintro H
  imod (Rounds.fund EPair (sched m) allCells allToks) $$ H with ⟨Hst, Hr, Hat, Htok⟩
  imodintro
  ihave Hst := (Entails.of_eq (hc fun g => roundState EPair (sched m) g 0)) $$ Hst
  ihave Hat := (Entails.of_eq (hc fun g => atPos EPair g 0 ∅ 0)) $$ Hat
  ihave Hr := (Entails.of_eq (hc fun g => reached EPair g 0)) $$ Hr
  ihave Htok := (Entails.of_eq ht) $$ Htok
  unfold dealt
  simp only [bigSep_sep']
  isplitl [Hst]; · iexact Hst
  isplitl [Hat]; · iexact Hat
  isplitl [Hr]; · iexact Hr
  iexact Htok

omit [FloatOps F] in
theorem ownSems_eq (c : Dev nD) : (Pipeline.ownSems0 (Ix := Unit) (Name := ℕ) (U := UBoth) (Lvl := ℕ) (Val := Elt F) (τ := τ) ownSem c : sProp 𝕄)
    = iprop(semVal (cell c 1) 0 ∗ semVal (cell c 2) 0) := by
  rw [Pipeline.ownSems0_eq_of_list c ownSem [0, 1] (by decide) (by decide)]; rfl
omit [FloatOps F] in
theorem unscopedSems_eq (c : Dev nD) : (unscopedSems0 c : sProp 𝕄) = semVal (cell c 0) 0 := by
  unfold unscopedSems0; rw [bigSep_eq_bigSepL_of_eq [SemLoc.reg barS] (by decide) (by decide)]; rfl

/-- One device's semaphores at zero and its part of the ghost state open its three cells. -/
theorem open_cells (c : Dev nD) :
    iprop(Pipeline.ownSems0 (Ix := Unit) (Name := ℕ) (U := UBoth) (Lvl := ℕ) (Val := Elt F) (τ := τ) ownSem c ∗ unscopedSems0 c ∗ dealt m c)
      ⊢ |={Set.univ}=> iprop((bigSep Finset.univ fun k : Fin 3 => iprop(∃ κ : ℕ, cellInv EPair (sched m) κ (cell c k)))
          ∗ (bigSep Finset.univ fun k : Fin 3 => atPos EPair (cell c k) 0 ∅ 0)
          ∗ (bigSep Finset.univ fun k : Fin 3 => reached EPair (cell c k) 0)
          ∗ bigSep Finset.univ fun k : Fin 3 => dutyTok EPair (cell c k) 0 ()) := by
  rw [ownSems_eq, unscopedSems_eq]
  unfold dealt
  iintro ⟨⟨H1, H2⟩, H0, Hst, Hrest⟩
  have hopen : iprop((bigSep Finset.univ fun k : Fin 3 => semVal (cell c k) 0) ∗ bigSep Finset.univ fun k : Fin 3 => roundState EPair (sched m) (cell c k) 0)
      ⊢ (|={Set.univ}=> bigSep Finset.univ fun k : Fin 3 => iprop(∃ κ : ℕ, cellInv EPair (sched m) κ (cell c k)) : sProp 𝕄) := by
    rw [← bigSep_sep']
    exact (bigSep_mono fun k _ => (Rounds.body_intro EPair (sched m) (cell c k)).trans inv_alloc).trans (bigSep_fupd _ _)
  imod hopen $$ [H0 H1 H2 Hst] with Hinv
  · isplitr [Hst]
    · rw [three (F := F) (fun k => semVal (cell c k) 0)]
      isplitl [H0]; · iexact H0
      isplitl [H1] <;> iassumption
    · iexact Hst
  imodintro
  isplitl [Hinv]; · iexact Hinv
  iexact Hrest

omit [FloatOps F] in
/-- Shared knowledge goes to every device. -/
theorem to_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
/-- The tokens change hands: a barrier's and an arrival's go to the partner. -/
theorem swap_toks :
    (bigSep Finset.univ fun c : Dev nD => bigSep Finset.univ fun k : Fin 3 => (dutyTok EPair (cell c k) 0 () : sProp 𝕄))
      ⊢ bigSep Finset.univ fun c : Dev nD => (duties c : sProp 𝕄) := by
  simp only [three]
  unfold duties
  rw [bigSep_sep', bigSep_sep', bigSep_sep', bigSep_sep',
    bigSep_univ_equiv pairing (fun c : Dev nD => (dutyTok EPair (cell c 0) 0 () : sProp 𝕄)),
    bigSep_univ_equiv pairing (fun c : Dev nD => (dutyTok EPair (cell c 2) 0 () : sProp 𝕄))]
  exact BIBase.Entails.rfl

omit [FloatOps F] in
theorem at_places : (bigSep Finset.univ fun c : Dev nD => bigSep Finset.univ fun k : Fin 3 => (atPos EPair (cell c k) 0 ∅ 0 : sProp 𝕄))
    ⊢ bigSep Finset.univ fun c : Dev nD => (places c : sProp 𝕄) :=
  bigSep_mono fun c _ => by unfold places; exact Entails.of_eq (three _)

/-- Every device's share of the protocol. -/
theorem hand_out :
    (bigSep Finset.univ fun c : Dev nD => iprop((bigSep Finset.univ fun k : Fin 3 => iprop(∃ κ : ℕ, cellInv EPair (sched m) κ (cell c k)))
          ∗ (bigSep Finset.univ fun k : Fin 3 => atPos EPair (cell c k) 0 ∅ 0)
          ∗ (bigSep Finset.univ fun k : Fin 3 => reached EPair (cell c k) 0)
          ∗ bigSep Finset.univ fun k : Fin 3 => dutyTok EPair (cell c k) 0 ()) : sProp 𝕄)
      ⊢ bigSep Finset.univ (share₀ m) := by
  rw [bigSep_sep', bigSep_sep', bigSep_sep',
    ← bigSep_univ_prod (fun ck : Dev nD × Fin 3 => iprop(∃ κ : ℕ, cellInv EPair (sched m) κ (cell ck.1 ck.2))),
    ← bigSep_univ_prod (fun ck : Dev nD × Fin 3 => (reached EPair (cell ck.1 ck.2) 0 : sProp 𝕄))]
  iintro ⟨HI, Hat, #HR, Htok⟩
  ihave HK := (BI.bigSep_exists_pi Finset.univ (fun (ck : Dev nD × Fin 3) (κ : ℕ) => (cellInv EPair (sched m) κ (cell ck.1 ck.2) : sProp 𝕄))) $$ HI
  icases HK with ⟨%K, #HI⟩
  ihave Htok := (swap_toks (F := F)) $$ Htok
  iapply (to_all (R := shared m K) (Φ := fun c => iprop(places c ∗ duties c)) fun c => by
    unfold share₀
    iintro ⟨HS, HP, HD⟩
    iexists K
    isplitl [HS]; · iexact HS
    isplitl [HP] <;> iassumption)
  isplitr
  · unfold shared; isplitl; · iexact HI
    iexact HR
  · rw [bigSep_sep']
    isplitl [Hat]
    · iapply (at_places (F := F))
      iexact Hat
    · iexact Htok

/-- The launch's step over all devices at once: every semaphore at zero becomes an open cell. -/
theorem open_all : (bigSep Finset.univ fun c => iprop(Pipeline.ownSems0 (Ix := Unit) (Name := ℕ) (U := UBoth) (Lvl := ℕ) (Val := Elt F) (τ := τ) ownSem c
      ∗ unscopedSems0 c ∗ dealt m c) : sProp 𝕄)
    ⊢ |={Set.univ}=> bigSep Finset.univ (share₀ m) :=
  ((bigSep_mono fun c _ => open_cells m c).trans (bigSep_fupd _ _)).trans (BI.fupd_mono (hand_out m))

/-! ## The credit the launch gives -/

theorem cell_eq_iff {a b : Dev nD} {j k : Fin 3} : cell a j = cell b k ↔ a = b ∧ j = k := by
  constructor
  · intro h
    have := @cell_injective (a, j) (b, k) h
    exact ⟨congrArg Prod.fst this, congrArg Prod.snd this⟩
  · rintro ⟨rfl, rfl⟩; rfl

/-- What device `d` owes device `c`'s barrier: a unit, if they are partners. -/
theorem owes_bar (d c : Dev nD) : owed₀ d (cell c 0) () = if d = partner c then 1 else 0 := by
  unfold owed₀
  rw [Pi.add_apply, Finsupp.add_apply, tallyAt_apply, tallyAt_apply, if_neg (fun h => absurd (cell_eq_iff.mp h.1).2 (by decide)), Nat.zero_add]
  by_cases h : d = partner c
  · rw [if_pos h, if_pos ⟨cell_eq_iff.mpr ⟨by rw [h, partner_partner], rfl⟩, rfl⟩]
  · rw [if_neg h, if_neg fun h' => h (partner_eq_iff.mp (cell_eq_iff.mp h'.1).1.symm)]

/-- What device `d` owes device `c`'s arrival: a copy, if they are partners. -/
theorem owes_arrive (d c : Dev nD) : owed₀ d (cell c 2) () = if d = partner c then credit else 0 := by
  unfold owed₀
  rw [Pi.add_apply, Finsupp.add_apply, tallyAt_apply, tallyAt_apply, if_neg (c := _ ∧ _) (t := 1) (fun h => absurd (cell_eq_iff.mp h.1).2 (by decide)), Nat.add_zero]
  by_cases h : d = partner c
  · rw [if_pos h, if_pos ⟨cell_eq_iff.mpr ⟨by rw [h, partner_partner], rfl⟩, rfl⟩]
  · rw [if_neg h, if_neg fun h' => h (partner_eq_iff.mp (cell_eq_iff.mp h'.1).1.symm)]

theorem launch_bar (c : Dev nD) :
    tallyOn (cell c 0) (launchCredit (Pipeline.owing owed₀) 0 (cell c 0)) = (tallyAt (cell c 0) () 1 : CellTallies nD τ sig Unit) := by
  unfold tallyAt; refine congrArg _ (Finsupp.ext fun u => ?_); cases u
  rw [Pipeline.launchCredit_owing, Finsupp.single_eq_same, Finset.sum_congr rfl fun d _ => owes_bar d c,
    Finset.sum_ite_eq' Finset.univ (partner c) fun _ => 1, if_pos (Finset.mem_univ _)]

theorem launch_arrive (c : Dev nD) :
    tallyOn (cell c 2) (launchCredit (Pipeline.owing owed₀) 0 (cell c 2)) = (tallyAt (cell c 2) () credit : CellTallies nD τ sig Unit) := by
  unfold tallyAt; refine congrArg _ (Finsupp.ext fun u => ?_); cases u
  rw [Pipeline.launchCredit_owing, Finsupp.single_eq_same, Finset.sum_congr rfl fun d _ => owes_arrive d c,
    Finset.sum_ite_eq' Finset.univ (partner c) fun _ => credit, if_pos (Finset.mem_univ _)]

omit [FloatOps F] in
theorem launch_credit (c : Dev nD) :
    (Pipeline.launchCred owed₀ c : sProp 𝕄) ⊢ iprop(cred (tallyAt (cell c 0) () 1) ∗ cred (tallyAt (cell c 2) () credit)) := by
  unfold Pipeline.launchCred
  rw [bigSep_univ_at _ (semOf 0), launch_bar]
  refine sep_mono_right ?_
  rw [← launch_arrive]
  exact bigSep_elim (Finset.mem_erase.mpr ⟨fun h => absurd (semOf_injective h) (by decide), Finset.mem_univ (semOf 2)⟩)

/-! ## The launch's side conditions -/

theorem enter (c : Dev nD) :
    iprop(Pipeline.unscopedRestP Pipeline.Prefetch.none cfg0.spec c (fun b => m ((c : Thread nD τ).loc b)) ∗ levAts LL level
        ∗ Pipeline.launchCred owed₀ c ∗ prngReg c (ρ c) ∗ share₀ m c)
      ⊢ |={Set.univ}=> iprop(begin₀ m c ∗ emp) := by
  iintro ⟨-, Hlev, Hcr, -, HG⟩
  ihave Hc := (launch_credit (F := F) c) $$ Hcr
  icases Hc with ⟨H0, H2⟩
  imodintro
  unfold begin₀
  isplitl
  · isplitl [HG]; · iexact HG
    isplitl [H0]; · iexact H0
    isplitl [H2]; · iexact H2
    iexact Hlev
  · iempintro

theorem before_intro (c : Dev nD) :
    iprop(begin₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀
  iintro ⟨Hs, -, Hr⟩
  isplitl [Hs] <;> iassumption

theorem after_exit (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = after₀ c from rfl, scopedRest0_eq, ownSems_eq, unscopedSems_eq]
  unfold after₀
  iintro ⟨Hr, H0, H1, H2⟩
  isplitl [H0]; · iexact H0
  isplitl [H1 H2]
  · isplitl [H1] <;> iassumption
  iexact Hr

theorem staging_waits (c : Dev nD) : (levAts LL level : sProp 𝕄) ⊢ Pipeline.cellsWaits cfgs (dats m) () 0 c :=
  Pipeline.cellsWaits_intro cfgs (dats m) () 0 c fun w s t =>
    mayWait_staging c _ (by fin_cases w <;> fin_cases s <;> decide) _ (by
      rcases t with ⟨_ | _, ht⟩
      · exact Or.inl rfl
      · exact Or.inr rfl)

/-! ## The run -/

/-- A window's array after the run. -/
def final (c : Dev nD) (w : Fin cfg0.W) : Buf (Elt F) ((cfg0.win w).arr.view.loc (c : Thread nD τ)) := (dats m 0 c).arrAt w cfg0.N

set_option maxRecDepth 8000 in
/-- For any float values, from any memory with its semaphores at zero: every fair execution on the sixteen devices
    ends, each device's arrays at `final`, every semaphore at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EStage defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := owed₀) (howed₀ := fun _ => rfl) (howedN := fun _ => rfl)
    (L := LL) (lv := level) (hL := LL_other) (hwaits := staging_waits m)
    (G := dealt m) (G' := share₀ m) (u₀ := ghost₀)
    (hu₀ := by
      unfold ghost₀
      iintro Hu
      ihave H := (ownU_pair _ _) $$ Hu
      icases H with ⟨HP, HX⟩
      imod (deal m) $$ HX with HG
      imodintro
      isplitl [HP] <;> iassumption)
    (hglob := open_all m)
    (hA := fun _ _ => rfl) (hpf := fun _ k => k.elim0)
    (X := begin₀ m) (Y := fun c => unscopedSems0 c) (Z := fun _ => iprop(emp))
    (hX := enter m ρ) (hin := before_intro m) (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand after the run is what it was. -/
theorem final_operand (c : Dev nD) : final m c (0 : Fin 2) = m (win0_0.arr.view.loc (c : Thread nD τ)) :=
  (dats (F := F) m 0 c).arrAt_in (0 : Fin 2) rfl _

/-- The block a device works on is its operand array. -/
theorem block_eq (c : Dev nD) : block m c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _

/-- The result array after the run is the merged eight values of the device's pair. -/
theorem final_result (c : Dev nD) : final m c (1 : Fin 2) = result m c := by
  have hz : (fun a => (win0_1.index t0_0) a * main_v1.ty.shape.size a) = fun _ => 0 := funext fun a => by fin_cases a <;> decide
  have hr := fun f => Memref.read_access_unit_zero (Elt F) main_v1 hz (fun a => by fin_cases a <;> decide) f
  have hw : (win0_1.blk t0_0).view.read (Elt F) (final m c (1 : Fin 2)) = result m c := by
    unfold final
    rw [show cfg0.N = t0_0.val + 1 from rfl, (dats m 0 c).arrAt_succ (1 : Fin 2) t0_0,
      show (cfg0.win (1 : Fin 2)).flush t0_0 = true from flush0_1 _, if_pos rfl]
    exact View.read_write_univ _ _
  exact (hr (final m c (1 : Fin 2))).symm.trans hw

end Cert.PairTopK

end
-- ==== Proof.Rank.lean ====
/-
Order statistics of a finite family, ties counted: the entry of rank `t` (from 0, greatest first) is the one value
`a` such that the values below `a` are exactly those with more than `t` entries above them. A family that is
repeatedly robbed of one greatest entry, a family put in decreasing order, and two families' leading ranks put together
all show their ranks this way, and a family has one value of each rank, so the three agree.
-/
module

public import Idealize.ShloMosaic.PureOps.Ideal.Laws

@[expose] public section

namespace Cert.PairTopK

variable {α : Type*} [LinearOrder α] {ι κ : Type*} [Fintype ι] [Fintype κ]

/-- How many entries of a family lie above a value. -/
def above (f : ι → α) (v : α) : ℕ := (Finset.univ.filter fun i => v < f i).card

/-- The value `a` is a family's entry of rank `t`, counted from 0 and from the greatest, equal entries counted each. -/
def IsRank (f : ι → α) (t : ℕ) (a : α) : Prop := ∀ v, v < a ↔ t < above f v

/-- A family has one value of each rank. -/
theorem IsRank.unique {f : ι → α} {t : ℕ} {a b : α} (ha : IsRank f t a) (hb : IsRank f t b) : a = b :=
  eq_of_forall_lt_iff fun v => (ha v).trans (hb v).symm

/-- The order in which a family is listed does not matter. -/
theorem above_comp_equiv (f : ι → α) (e : κ ≃ ι) (v : α) : above (f ∘ e) v = above f v := by
  unfold above
  refine Finset.card_bij (fun i _ => e i) (fun i hi => ?_) (fun i _ j _ h => e.injective h) (fun i hi => ⟨e.symm i, ?_, ?_⟩)
  · simpa using hi
  · simpa using hi
  · simp

/-- Of two families side by side the counts add up. -/
theorem above_sum (f : ι → α) (g : κ → α) (v : α) : above (Sum.elim f g) v = above f v + above g v := by
  classical
  unfold above
  rw [← Finset.card_disjSum]
  congr 1
  ext i
  rcases i with i | i <;> simp

/-! ## Robbing a family of a greatest entry -/

/-- A greatest entry has rank 0. -/
theorem above_pos_iff (f : ι → α) (v : α) : 0 < above f v ↔ ∃ i, v < f i := by
  unfold above
  rw [Finset.card_pos]
  simp [Finset.Nonempty]

variable [DecidableEq ι] [OrderBot α]

/-- Replacing a greatest entry by the least value takes one off every count that was not zero. -/
theorem above_update (f : ι → α) (p : ι) (hp : ∀ i, f i ≤ f p) (v : α) :
    above (Function.update f p ⊥) v = above f v - 1 := by
  unfold above
  by_cases hv : v < f p
  · rw [show (Finset.univ.filter fun i => v < Function.update f p ⊥ i) = (Finset.univ.filter fun i => v < f i).erase p from ?_,
      Finset.card_erase_of_mem (by simpa using hv)]
    ext i
    by_cases hi : i = p
    · subst hi; simp
    · simp [hi]
  · have h0 : (Finset.univ.filter fun i => v < f i) = ∅ :=
      Finset.filter_eq_empty_iff.mpr fun i _ h => hv (lt_of_lt_of_le h (hp i))
    rw [h0, Finset.filter_eq_empty_iff.mpr]
    · simp
    · intro i _ h
      by_cases hi : i = p
      · subst hi; simp at h
      · rw [Function.update_of_ne hi] at h; exact hv (lt_of_lt_of_le h (hp i))

/-- Families each of which is the one before it robbed of a greatest entry: the greatest entry of the family after `t`
    robberies is the first family's entry of rank `t`. -/
theorem isRank_of_robbed (g : ℕ → ι → α) (p : ℕ → ι) (hp : ∀ t i, g t i ≤ g t (p t))
    (hg : ∀ t, g (t + 1) = Function.update (g t) (p t) ⊥) (t : ℕ) : IsRank (g 0) t (g t (p t)) := by
  have hc : ∀ t v, above (g t) v = above (g 0) v - t := by
    intro t v
    induction t with
    | zero => rfl
    | succ t ih => rw [hg, above_update _ _ (hp t), ih, Nat.sub_sub]
  intro v
  rw [show t < above (g 0) v ↔ 0 < above (g t) v by rw [hc t v]; omega, above_pos_iff]
  exact ⟨fun h => ⟨_, h⟩, fun ⟨i, hi⟩ => lt_of_lt_of_le hi (hp t i)⟩

omit [DecidableEq ι] [OrderBot α]

/-! ## A family's leading ranks -/

/-- Of a family's first `k` ranks, those above a value are as many as its entries above it, if not more than `k`. -/
theorem above_ranks {k : ℕ} (f : ι → α) (a : Fin k → α) (ha : ∀ t : Fin k, IsRank f t.val (a t)) (v : α) :
    above a v = min k (above f v) := by
  have h : (Finset.univ.filter fun t : Fin k => v < a t) = Finset.univ.filter fun t : Fin k => t.val < above f v :=
    Finset.filter_congr fun t _ => ha t v
  unfold above at h ⊢
  rw [h, Fin.card_filter_val_lt]

/-- Of two families' first `k` ranks put together, the first `k` ranks are those of the two families together. -/
theorem isRank_of_leading {k : ℕ} (f : ι → α) (g : κ → α) (a b : Fin k → α) (ha : ∀ t : Fin k, IsRank f t.val (a t))
    (hb : ∀ t : Fin k, IsRank g t.val (b t)) {j : ℕ} (hj : j < k) {x : α} (hx : IsRank (Sum.elim a b) j x) :
    IsRank (Sum.elim f g) j x := by
  intro v
  rw [hx v, above_sum, above_sum, above_ranks f a ha, above_ranks g b hb]
  omega

/-- A family in decreasing order shows its ranks in turn. -/
theorem isRank_of_antitone {n : ℕ} (f : Fin n → α) (hf : Antitone f) (j : Fin n) : IsRank f j.val (f j) := by
  intro v
  unfold above
  constructor
  · intro h
    have hs : (Finset.univ.filter fun i : Fin n => i.val < j.val + 1) ⊆ Finset.univ.filter fun i => v < f i := by
      intro i hi
      simp only [Finset.mem_filter, Finset.mem_univ, true_and] at hi ⊢
      exact lt_of_lt_of_le h (hf (Fin.le_def.mpr (Nat.lt_succ_iff.mp hi)))
    have := Finset.card_le_card hs
    rw [Fin.card_filter_val_lt] at this
    have := j.isLt
    omega
  · intro h
    by_contra hv
    have hs : (Finset.univ.filter fun i => v < f i) ⊆ Finset.univ.filter fun i : Fin n => i.val < j.val := by
      intro i hi
      simp only [Finset.mem_filter, Finset.mem_univ, true_and] at hi ⊢
      by_contra hij
      exact hv (lt_of_lt_of_le hi (hf (Fin.le_def.mpr (Nat.not_lt.mp hij))))
    have := Finset.card_le_card hs
    rw [Fin.card_filter_val_lt] at this
    omega

/-- The ranks of a relisted family are the family's. -/
theorem isRank_comp_equiv {f : ι → α} (e : κ ≃ ι) {t : ℕ} {a : α} : IsRank (f ∘ e) t a ↔ IsRank f t a := by
  unfold IsRank
  simp only [above_comp_equiv]

end Cert.PairTopK
-- ==== Proof.Extract.lean ====
/-
One row's greatest values, taken one at a time over the extended reals: a vector's row maxima, the vector with each
row's first maximum replaced by minus infinity, and the eight maxima got by doing so seven times, which are the row's
entries of rank 0 to 7.
-/
module

public import proofs.«01_k».proof.Proof.Rank
public import Idealize.ShloMosaic.Lib.Pointwise.Index
public import Idealize.ShloMosaic.Lib.Pipeline.Value

@[expose] public section

noncomputable section

namespace Cert.PairTopK

open Idealize.ShloMosaic

/-! ## The operations -/

/-- Two hundred and fifty-six rows of `n` entries, -/
abbrev Rows (n : ℕ) : Shape := ⟨2, ![256, n]⟩
/-- and one entry for each row. -/
abbrev PerRow : Shape := ⟨1, ![256]⟩

section Ops
variable {F : FTy → Type} [FloatOps F] {n : ℕ}
variable (hr : (Rows n).Reduces [1] PerRow) (hb : (Rows 1).Broadcasts (Rows n)) (hc : PerRow.ShapeCasts (Rows 1))
variable (filler : BitVec 32) (ns : IVec (Rows n) 32)

/-- Each row's maximum, as a column. -/
def heads (v : FVec F (Rows n) .f32) : FVec F (Rows 1) .f32 :=
  shapeCast (Rows 1) (multiReduction .maximumf [1] PerRow v 0xFF800000#32 hr (.inl rfl) rfl) hc

/-- The column number at which each row's maximum first stands. -/
def firsts (v : FVec F (Rows n) .f32) : IVec PerRow 32 :=
  multiReductionI .minsi [1] PerRow (select (cmpf .oeq v (broadcastTo (Rows n) (heads hr hc v) hb)) ns (broadcast (Rows n) filler))
    2147483647#32 hr rfl

/-- The vector with minus infinity at those places. -/
def robbed (v : FVec F (Rows n) .f32) : FVec F (Rows n) .f32 :=
  select (cmpi .eq ns (broadcastTo (Rows n) (shapeCast (Rows 1) (firsts hr hb hc filler ns v) hc) hb))
    (broadcast (Rows n) (Scalar.ofBits .f32 0xFF800000#32)) v

/-- The vector so changed `t` times. -/
def robbedTimes (v : FVec F (Rows n) .f32) : ℕ → FVec F (Rows n) .f32
  | 0 => v
  | t + 1 => robbed hr hb hc filler ns (robbedTimes v t)

theorem robbedTimes_add (v : FVec F (Rows n) .f32) (s t : ℕ) :
    robbedTimes hr hb hc filler ns (robbedTimes hr hb hc filler ns v s) t = robbedTimes hr hb hc filler ns v (s + t) := by
  induction t with
  | zero => rfl
  | succ t ih => exact congrArg (robbed hr hb hc filler ns) ih

end Ops

/-! ## Reading them -/

section Read
variable {n : ℕ} {α : Type}

/-- A vector's row. -/
def rowOf (v : (Rows n).Idx → α) (r : Fin 256) : Fin n → α := fun k => v (ix2 r k)

theorem column_apply (w : PerRow.Idx → α) (hc : PerRow.ShapeCasts (Rows 1)) (r : Fin 256) (z : Fin 1) :
    shapeCast (Rows 1) w hc (ix2 r z) = w (ix1 r) := by
  refine shapeCast_apply w hc _ _ ?_
  rw [Shape.rowMajor_val_one, Shape.rowMajor_val_two]
  simp

theorem spread_apply (u : (Rows 1).Idx → α) (hb : (Rows 1).Broadcasts (Rows n)) (r : Fin 256) (k : Fin n) :
    broadcastTo (Rows n) u hb (ix2 r k) = u (ix2 r 0) := by
  refine broadcastTo_apply u hb _ _ fun a => ?_
  fin_cases a <;> rfl

theorem lift_eq (hr : (Rows n).Reduces [1] PerRow) (r : Fin 256) (k : Fin n) : hr.lift (ix1 r) k = ix2 r k := by
  funext a
  fin_cases a <;> rfl

theorem negInf : (FloatOps.ofBits (F := Ideal) .f32 0xFF800000#32 : EReal) = ⊥ := by
  show Ideal.ofBits .f32 0xFF800000#32 = ⊥
  simp [Ideal.ofBits, Ideal.ieee]

variable (hr : (Rows n).Reduces [1] PerRow) (hb : (Rows 1).Broadcasts (Rows n)) (hc : PerRow.ShapeCasts (Rows 1))

theorem heads_eq (v : FVec Ideal (Rows n) .f32) (r : Fin 256) (z : Fin 1) :
    heads hr hc v (ix2 r z) = Finset.univ.sup (rowOf (α := EReal) v r) := by
  unfold heads
  rw [column_apply]
  refine (Ideal.multiReduction_maximumf_single v 0xFF800000#32 hr (.inl rfl) rfl (ix1 r)).trans ?_
  rw [negInf]
  unfold Finset.sup
  refine congrArg (Finset.fold max ⊥ · Finset.univ) (funext fun k => ?_)
  exact congrArg v (lift_eq hr r k)

/-- The least of a family of signed words, the start no less than it. -/
theorem least_word {m : ℕ} (w : Fin m → BitVec 32) (b : BitVec 32) (p : Fin m) (h : ∀ k, (w p).toInt ≤ (w k).toInt)
    (hb : (w p).toInt ≤ b.toInt) : Finset.univ.fold IntOp.minsi b w = w p := by
  apply BitVec.eq_of_toInt_eq
  have hm : ∀ x y : BitVec 32, (IntOp.minsi x y).toInt = min x.toInt y.toInt := by
    intro x y
    unfold IntOp.minsi
    by_cases hxy : x.toInt < y.toInt
    · rw [if_pos (by simpa [BitVec.slt] using hxy), min_eq_left hxy.le]
    · rw [if_neg (by simpa [BitVec.slt] using hxy), min_eq_right (not_lt.mp hxy)]
  rw [← Finset.fold_hom (op := IntOp.minsi) (op' := min) (m := BitVec.toInt) (hm := hm)]
  refine le_antisymm ?_ ?_
  · exact (Finset.fold_min_le _).mpr (Or.inr ⟨p, Finset.mem_univ p, le_rfl⟩)
  · exact (Finset.le_fold_min _).mpr ⟨hb, fun k _ => h k⟩

theorem toInt_small {k : ℕ} (hk : k < 2 ^ 31) : (BitVec.ofNat 32 k).toInt = k := by
  rw [BitVec.toInt_eq_toNat_of_lt] <;> rw [BitVec.toNat_ofNat, Nat.mod_eq_of_lt] <;> omega

variable (filler : BitVec 32) (ns : IVec (Rows n) 32)

/-- The first place of a row's maximum is what `firsts` holds. -/
theorem firsts_eq (hn : n < 2 ^ 31) (hf : filler = BitVec.ofNat 32 n) (hns : ∀ r k, ns (ix2 r k) = BitVec.ofNat 32 k.val)
    (v : FVec Ideal (Rows n) .f32) (r : Fin 256) (p : Fin n) (hp : rowOf (α := EReal) v r p = Finset.univ.sup (rowOf (α := EReal) v r))
    (hmin : ∀ k, rowOf (α := EReal) v r k = Finset.univ.sup (rowOf (α := EReal) v r) → p ≤ k) :
    firsts hr hb hc filler ns v (ix1 r) = BitVec.ofNat 32 p.val := by
  have hw : ∀ k : Fin n, select (cmpf .oeq v (broadcastTo (Rows n) (heads hr hc v) hb)) ns (broadcast (Rows n) filler) (ix2 r k)
      = if rowOf (α := EReal) v r k = Finset.univ.sup (rowOf (α := EReal) v r) then BitVec.ofNat 32 k.val else BitVec.ofNat 32 n := by
    intro k
    show (if Ideal.cmp .oeq (v (ix2 r k)) (broadcastTo (Rows n) (heads hr hc v) hb (ix2 r k)) = 1#1 then ns (ix2 r k) else filler) = _
    rw [spread_apply, heads_eq, hns, hf]
    by_cases h : rowOf (α := EReal) v r k = Finset.univ.sup (rowOf (α := EReal) v r)
    · rw [if_pos h, if_pos]
      exact congrArg BitVec.ofBool (decide_eq_true h)
    · rw [if_neg h, if_neg]
      exact fun he => absurd ((congrArg BitVec.ofBool (decide_eq_false h)).symm.trans he) (by decide)
  unfold firsts
  refine ((multiReductionI_eq_fold .minsi _ 2147483647#32 hr rfl (ix1 r)).trans (hr.fold_filter_drop_single IntOp.minsi _ _ _)).trans ?_
  rw [show (select (cmpf .oeq v (broadcastTo (Rows n) (heads hr hc v) hb)) ns (broadcast (Rows n) filler)) ∘ hr.lift (ix1 r)
    = fun k : Fin n => if rowOf (α := EReal) v r k = Finset.univ.sup (rowOf (α := EReal) v r) then BitVec.ofNat 32 k.val else BitVec.ofNat 32 n
    from funext fun k => (congrArg _ (lift_eq hr r k)).trans (hw k)]
  refine (least_word _ _ p (fun k => ?_) ?_).trans (if_pos hp)
  · rw [if_pos hp, toInt_small (lt_trans p.isLt hn)]
    by_cases h : rowOf (α := EReal) v r k = Finset.univ.sup (rowOf (α := EReal) v r)
    · rw [if_pos h, toInt_small (lt_trans k.isLt hn)]
      exact_mod_cast hmin k h
    · rw [if_neg h, toInt_small hn]
      exact_mod_cast p.isLt.le
  · rw [if_pos hp, toInt_small (lt_trans p.isLt hn)]
    have : (2147483647#32 : BitVec 32).toInt = 2147483647 := by decide
    rw [this]
    have := p.isLt
    omega

/-- Robbing a vector replaces one greatest entry of each row by minus infinity. -/
theorem robbed_row (h0 : 0 < n) (hn : n < 2 ^ 31) (hf : filler = BitVec.ofNat 32 n) (hns : ∀ r k, ns (ix2 r k) = BitVec.ofNat 32 k.val)
    (v : FVec Ideal (Rows n) .f32) (r : Fin 256) :
    ∃ p : Fin n, (∀ i, rowOf (α := EReal) v r i ≤ rowOf (α := EReal) v r p)
      ∧ heads hr hc v (ix2 r 0) = rowOf (α := EReal) v r p
      ∧ rowOf (α := EReal) (robbed hr hb hc filler ns v) r = Function.update (rowOf (α := EReal) v r) p ⊥ := by
  haveI : Nonempty (Fin n) := ⟨⟨0, h0⟩⟩
  obtain ⟨q, -, hq⟩ := Finset.exists_mem_eq_sup Finset.univ Finset.univ_nonempty (rowOf (α := EReal) v r)
  have hne : (Finset.univ.filter fun k : Fin n => rowOf (α := EReal) v r k = Finset.univ.sup (rowOf (α := EReal) v r)).Nonempty :=
    ⟨q, by simpa using hq.symm⟩
  set p := Finset.min' _ hne with hpdef
  have hp : rowOf (α := EReal) v r p = Finset.univ.sup (rowOf (α := EReal) v r) := by
    have := Finset.min'_mem _ hne
    simpa using this
  have hmin : ∀ k, rowOf (α := EReal) v r k = Finset.univ.sup (rowOf (α := EReal) v r) → p ≤ k := fun k hk =>
    Finset.min'_le _ _ (by simpa using hk)
  refine ⟨p, fun i => ?_, (heads_eq hr hc v r 0).trans hp.symm, funext fun k => ?_⟩
  · rw [hp]; exact Finset.le_sup (Finset.mem_univ i)
  · have hfirst := firsts_eq hr hb hc filler ns hn hf hns v r p hp hmin
    show (if IntOp.cmpi .eq (ns (ix2 r k)) (broadcastTo (Rows n) (shapeCast (Rows 1) (firsts hr hb hc filler ns v) hc) hb (ix2 r k)) = 1#1
      then (FloatOps.ofBits (F := Ideal) .f32 0xFF800000#32 : EReal) else v (ix2 r k)) = _
    rw [spread_apply, column_apply, hfirst, hns, negInf]
    by_cases hk : k = p
    · subst hk
      rw [Function.update_self, if_pos]
      simp [IntOp.cmpi]
    · rw [Function.update_of_ne hk, if_neg]
      · rfl
      · intro he
        have hkp : BitVec.ofNat 32 k.val = BitVec.ofNat 32 p.val := by
          by_contra hne
          have hb' : (BitVec.ofNat 32 k.val == BitVec.ofNat 32 p.val) = false := beq_false_of_ne hne
          exact absurd ((congrArg BitVec.ofBool hb').symm.trans he) (by decide)
        have h2 := congrArg BitVec.toInt hkp
        rw [toInt_small (lt_trans k.isLt hn), toInt_small (lt_trans p.isLt hn)] at h2
        exact hk (Fin.ext (by exact_mod_cast h2))

/-- The row maxima after `t` robberies are the rows' entries of rank `t`. -/
theorem heads_rank (h0 : 0 < n) (hn : n < 2 ^ 31) (hf : filler = BitVec.ofNat 32 n) (hns : ∀ r k, ns (ix2 r k) = BitVec.ofNat 32 k.val)
    (v : FVec Ideal (Rows n) .f32) (r : Fin 256) (t : ℕ) :
    IsRank (rowOf (α := EReal) v r) t (heads hr hc (robbedTimes hr hb hc filler ns v t) (ix2 r 0)) := by
  choose p hp hh hu using fun t => robbed_row hr hb hc filler ns h0 hn hf hns (robbedTimes hr hb hc filler ns v t) r
  have h := isRank_of_robbed (fun t => rowOf (α := EReal) (robbedTimes hr hb hc filler ns v t) r) p hp hu t
  rw [hh t]
  exact h

end Read

end Cert.PairTopK

end
-- ==== Proof.Payload.lean ====
/-
The values the kernel computes, over the extended reals: a block's eight values on a row are its entries of rank 0 to 7
there, and the merged eight of two blocks are the entries of rank 0 to 7 of the two rows put together.
-/
module

public import proofs.«01_k».proof.Proof.Extract
public import proofs.«01_k».proof.Proof.Protocol

@[expose] public section

noncomputable section

namespace Cert.PairTopK

open Cert.KernelIdeal Cert.KernelIdeal.Gen
open Idealize.ShloMosaic

/-! ## As robberies -/

section Shapes
variable {F : FTy → Type} [FloatOps F]

/-- The block after `t` of its maxima have been taken out of each row. -/
def wide (x : FVec F S256x1024 .f32) (t : ℕ) : FVec F S256x1024 .f32 :=
  robbedTimes (n := 1024) reduces_S256x1024_S256 broadcasts_S256x1_S256x1024 shapeCasts_S256_S256x1 1024#32 cols x t
/-- A block's row maxima, -/
def top (x : FVec F S256x1024 .f32) : FVec F S256x1 .f32 := heads (n := 1024) reduces_S256x1024_S256 shapeCasts_S256_S256x1 x
/-- and those after `t` have been taken out. -/
def wideHead (x : FVec F S256x1024 .f32) (t : ℕ) : FVec F S256x1 .f32 := top (wide x t)
/-- The sixteen candidates after `t` of their maxima have been taken out of each row. -/
def narrow (x : FVec F S256x16 .f32) (t : ℕ) : FVec F S256x16 .f32 :=
  robbedTimes (n := 16) reduces_S256x16_S256 broadcasts_S256x1_S256x16 shapeCasts_S256_S256x1 16#32 cols16 x t
/-- The candidates' row maxima, -/
def top16 (x : FVec F S256x16 .f32) : FVec F S256x1 .f32 := heads (n := 16) reduces_S256x16_S256 shapeCasts_S256_S256x1 x
/-- and those after `t` have been taken out. -/
def narrowHead (x : FVec F S256x16 .f32) (t : ℕ) : FVec F S256x1 .f32 := top16 (narrow x t)

/-- Eight columns side by side. -/
def eight (c : ℕ → FVec F S256x1 .f32) : FVec F S256x8 .f32 :=
  concatenate S256x8 1 [⟨S256x1, c 0⟩, ⟨S256x1, c 1⟩, ⟨S256x1, c 2⟩, ⟨S256x1, c 3⟩, ⟨S256x1, c 4⟩, ⟨S256x1, c 5⟩, ⟨S256x1, c 6⟩, ⟨S256x1, c 7⟩]
    concatenates_S256x1_S256x1_S256x1_S256x1_S256x1_S256x1_S256x1_S256x1_S256x8_d1

theorem pay2_self (x : FVec F S256x1024 .f32) : k0_pay2 x = x := by
  unfold k0_pay2 shapeCast
  exact funext fun i => congrArg x (by rw [Shape.reshapeEquiv_self])

theorem wide_add (x : FVec F S256x1024 .f32) (s t : ℕ) : wide (wide x s) t = wide x (s + t) :=
  robbedTimes_add _ _ _ _ _ x s t

theorem pay4_eq (x : FVec F S256x1024 .f32) : k0_pay4 x = wide (k0_pay2 x) 1 := rfl
theorem pay6_eq (x : FVec F S256x1024 .f32) : k0_pay6 x = wide (k0_pay2 x) 2 :=
  (show k0_pay6 x = wide (k0_pay4 x) 1 from rfl).trans (by rw [pay4_eq]; exact wide_add _ 1 1)
theorem pay9_eq (x : FVec F S256x1024 .f32) : k0_pay9 cols (k0_pay6 x) (k0_pay8 x) = wide (k0_pay2 x) 3 :=
  (show k0_pay9 cols (k0_pay6 x) (k0_pay8 x) = wide (k0_pay6 x) 1 from rfl).trans (by rw [pay6_eq]; exact wide_add _ 2 1)
theorem pay11_eq (x : FVec F S256x1024 .f32) : k0_pay11 cols (k0_pay6 x) (k0_pay8 x) = wide (k0_pay2 x) 4 :=
  (show k0_pay11 cols (k0_pay6 x) (k0_pay8 x) = wide (k0_pay9 cols (k0_pay6 x) (k0_pay8 x)) 1 from rfl).trans
    (by rw [pay9_eq]; exact wide_add _ 3 1)
theorem pay13_eq (x : FVec F S256x1024 .f32) : k0_pay13 cols (k0_pay6 x) (k0_pay8 x) = wide (k0_pay2 x) 5 :=
  (show k0_pay13 cols (k0_pay6 x) (k0_pay8 x) = wide (k0_pay11 cols (k0_pay6 x) (k0_pay8 x)) 1 from rfl).trans
    (by rw [pay11_eq]; exact wide_add _ 4 1)
theorem pay15_eq (x : FVec F S256x1024 .f32) : k0_pay15 cols (k0_pay6 x) (k0_pay8 x) = wide (k0_pay2 x) 6 :=
  (show k0_pay15 cols (k0_pay6 x) (k0_pay8 x) = wide (k0_pay13 cols (k0_pay6 x) (k0_pay8 x)) 1 from rfl).trans
    (by rw [pay13_eq]; exact wide_add _ 5 1)

/-- A block's eight values are its first eight row maxima, each taken out before the next. -/
theorem localTop_eq (x : FVec F S256x1024 .f32) : localTop x = eight (wideHead x) := by
  have h : localTop x = concatenate S256x8 1
      [⟨S256x1, top (k0_pay2 x)⟩,
       ⟨S256x1, top (k0_pay4 x)⟩,
       ⟨S256x1, top (k0_pay6 x)⟩,
       ⟨S256x1, top (k0_pay9 cols (k0_pay6 x) (k0_pay8 x))⟩,
       ⟨S256x1, top (k0_pay11 cols (k0_pay6 x) (k0_pay8 x))⟩,
       ⟨S256x1, top (k0_pay13 cols (k0_pay6 x) (k0_pay8 x))⟩,
       ⟨S256x1, top (k0_pay15 cols (k0_pay6 x) (k0_pay8 x))⟩,
       ⟨S256x1, top (wide (k0_pay15 cols (k0_pay6 x) (k0_pay8 x)) 1)⟩]
      concatenates_S256x1_S256x1_S256x1_S256x1_S256x1_S256x1_S256x1_S256x1_S256x8_d1 := rfl
  rw [h, pay15_eq, wide_add, pay13_eq, pay11_eq, pay9_eq, pay6_eq, pay4_eq, pay2_self]
  rfl

theorem narrow_add (v : FVec F S256x16 .f32) (s t : ℕ) : narrow (narrow v s) t = narrow v (s + t) :=
  robbedTimes_add _ _ _ _ _ v s t

theorem pay20_eq (a : FVec F S256x8 .f32) (b : FVec F S1x256x8 .f32) : k0_pay20 a b = narrow (k0_pay18 a b) 1 := rfl
theorem pay22_eq (v : FVec F S256x16 .f32) : k0_pay22 cols16 v = narrow v 1 := rfl
theorem pay24_eq (v : FVec F S256x16 .f32) : k0_pay24 cols16 v = narrow v 2 :=
  (show k0_pay24 cols16 v = narrow (k0_pay22 cols16 v) 1 from rfl).trans (by rw [pay22_eq]; exact narrow_add _ 1 1)
theorem pay26_eq (v : FVec F S256x16 .f32) : k0_pay26 cols16 v = narrow v 3 :=
  (show k0_pay26 cols16 v = narrow (k0_pay24 cols16 v) 1 from rfl).trans (by rw [pay24_eq]; exact narrow_add _ 2 1)

/-- The merged eight values are the sixteen candidates' first eight row maxima, each taken out before the next. -/
theorem mergeLoaded_eq (a : FVec F S256x8 .f32) (b : FVec F S1x256x8 .f32) :
    mergeLoaded a b = eight (narrowHead (k0_pay18 a b)) := by
  have h : mergeLoaded a b = concatenate S256x8 1
      [⟨S256x1, top16 (k0_pay18 a b)⟩, ⟨S256x1, top16 (k0_pay20 a b)⟩, ⟨S256x1, top16 (k0_pay22 cols16 (k0_pay20 a b))⟩,
       ⟨S256x1, top16 (k0_pay24 cols16 (k0_pay20 a b))⟩, ⟨S256x1, top16 (k0_pay26 cols16 (k0_pay20 a b))⟩,
       ⟨S256x1, top16 (narrow (k0_pay26 cols16 (k0_pay20 a b)) 1)⟩,
       ⟨S256x1, top16 (narrow (narrow (k0_pay26 cols16 (k0_pay20 a b)) 1) 1)⟩,
       ⟨S256x1, top16 (narrow (narrow (narrow (k0_pay26 cols16 (k0_pay20 a b)) 1) 1) 1)⟩]
      concatenates_S256x1_S256x1_S256x1_S256x1_S256x1_S256x1_S256x1_S256x1_S256x8_d1 := rfl
  rw [h, pay26_eq, pay24_eq, pay22_eq, pay20_eq, narrow_add, narrow_add, narrow_add, narrow_add, narrow_add, narrow_add]
  rfl

end Shapes

/-! ## Read on a row -/

section Read
variable {F : FTy → Type} [FloatOps F]

/-- Column `j` of eight side by side. -/
theorem eight_apply (c : ℕ → FVec F S256x1 .f32) (r : Fin 256) (j : Fin 8) : eight c (ix2 r j) = c j.val (ix2 r 0) := by
  refine concatenate_ofFn_unit_apply (s₁ := S256x1) (t := S256x8) 1 (fun n : Fin 8 => c n.val)
    concatenates_S256x1_S256x1_S256x1_S256x1_S256x1_S256x1_S256x1_S256x1_S256x8_d1 rfl rfl (ix2 r j) j rfl (ix2 r 0) fun b hb => ?_
  fin_cases b
  · rfl
  · exact absurd rfl hb

/-- The sixteen candidates on a row: the first block's eight, then the second's. -/
theorem candidates_row (a b : FVec F S256x8 .f32) (r : Fin 256) :
    rowOf (n := 16) (k0_pay18 a (shapeCast S1x256x8 b shapeCasts_S256x8_S1x256x8)) r ∘ (finSumFinEquiv : Fin 8 ⊕ Fin 8 ≃ Fin 16)
      = Sum.elim (rowOf (n := 8) a r) (rowOf (n := 8) b r) := by
  funext k
  have hb : shapeCast S256x8 (shapeCast S1x256x8 b shapeCasts_S256x8_S1x256x8) shapeCasts_S1x256x8_S256x8 = b := by
    unfold shapeCast
    exact funext fun i => congrArg b (by rw [Shape.reshapeEquiv_reshapeEquiv, Shape.reshapeEquiv_self])
  show concatenate S256x16 1 [⟨S256x8, a⟩, ⟨S256x8, shapeCast S256x8 (shapeCast S1x256x8 b shapeCasts_S256x8_S1x256x8) shapeCasts_S1x256x8_S256x8⟩]
    concatenates_S256x8_S256x8_S256x16_d1 (ix2 r (finSumFinEquiv k)) = _
  rw [hb]
  rcases k with k | k
  · refine concatenate_apply_piece (t := S256x16) 1 [⟨S256x8, a⟩, ⟨S256x8, b⟩] _ _ 0 Nat.zero_lt_two S256x8 a rfl rfl 0 rfl (ix2 r k) (fun b hb => ?_) ?_
    · fin_cases b
      · rfl
      · exact absurd rfl hb
    · show 0 + k.val = (finSumFinEquiv (m := 8) (n := 8) (Sum.inl k)).val
      rw [Nat.zero_add, finSumFinEquiv_apply_left, Fin.val_castAdd]
  · refine concatenate_apply_piece (t := S256x16) 1 [⟨S256x8, a⟩, ⟨S256x8, b⟩] _ _ 1 Nat.one_lt_two S256x8 b rfl rfl 8 rfl (ix2 r k) (fun b hb => ?_) ?_
    · fin_cases b
      · rfl
      · exact absurd rfl hb
    · show 8 + k.val = (finSumFinEquiv (m := 8) (n := 8) (Sum.inr k)).val
      rw [finSumFinEquiv_apply_right, Fin.val_natAdd]

end Read

theorem cols_apply (r : Fin 256) (k : Fin 1024) : cols (ix2 r k) = BitVec.ofNat 32 k.val := by
  show BitVec.ofNat 32 (0 * 1024 + k.val) = _
  rw [Nat.zero_mul, Nat.zero_add]
theorem cols16_apply (r : Fin 256) (k : Fin 16) : cols16 (ix2 r k) = BitVec.ofNat 32 k.val := by
  show BitVec.ofNat 32 (0 * 16 + k.val) = _
  rw [Nat.zero_mul, Nat.zero_add]

/-- A block's eight values on a row are its entries of rank 0 to 7 there. -/
theorem localTop_rank (x : FVec Ideal S256x1024 .f32) (r : Fin 256) (j : Fin 8) :
    IsRank (rowOf (n := 1024) (α := EReal) x r) j.val (rowOf (n := 8) (α := EReal) (localTop x) r j) := by
  have h := heads_rank (n := 1024) reduces_S256x1024_S256 broadcasts_S256x1_S256x1024 shapeCasts_S256_S256x1 1024#32 cols
    (by norm_num) (by norm_num) rfl cols_apply x r j.val
  rw [show rowOf (n := 8) (α := EReal) (localTop x) r j = wideHead x j.val (ix2 r 0) from
    (congrFun (localTop_eq x) (ix2 r j)).trans (eight_apply _ r j)]
  exact h

/-- The merged eight values of two blocks on a row are the entries of rank 0 to 7 of the two rows put together. -/
theorem merge_rank (x y : FVec Ideal S256x1024 .f32) (r : Fin 256) (j : Fin 8) :
    IsRank (Sum.elim (rowOf (n := 1024) (α := EReal) x r) (rowOf (n := 1024) (α := EReal) y r)) j.val
      (rowOf (n := 8) (α := EReal) (merge (localTop x) (localTop y)) r j) := by
  refine isRank_of_leading (k := 8) _ _ (rowOf (n := 8) (α := EReal) (localTop x) r) (rowOf (n := 8) (α := EReal) (localTop y) r)
    (localTop_rank x r) (localTop_rank y r) j.isLt ?_
  have h := heads_rank (n := 16) reduces_S256x16_S256 broadcasts_S256x1_S256x16 shapeCasts_S256_S256x1 16#32 cols16
    (by norm_num) (by norm_num) rfl cols16_apply
    (k0_pay18 (localTop x) (shapeCast S1x256x8 (localTop y) shapeCasts_S256x8_S1x256x8)) r j.val
  rw [← isRank_comp_equiv (finSumFinEquiv : Fin 8 ⊕ Fin 8 ≃ Fin 16), candidates_row] at h
  rw [show rowOf (n := 8) (α := EReal) (merge (localTop x) (localTop y)) r j
      = narrowHead (k0_pay18 (localTop x) (shapeCast S1x256x8 (localTop y) shapeCasts_S256x8_S1x256x8)) j.val (ix2 r 0) from
    (congrFun (mergeLoaded_eq (localTop x) _) (ix2 r j)).trans (eight_apply _ r j)]
  exact h

end Cert.PairTopK

end
-- ==== Proof.Taken.lean ====
/-
The value of the reference, over the extended reals: on each row, entry `j` of its result is the row's entry of rank
`j`. It sorts the negated row carrying the column numbers, keeps the first eight of them, and reads the row there.
-/
module

public import proofs.«01_k».proof.Proof.Extract
public import proofs.«01_k».proof.Proof.Gen.ReferenceIdeal.Run
public import Idealize.ShloMosaic.Lib.SortFacts

@[expose] public section

noncomputable section

namespace Cert.PairTopK.Ref

open Cert.ReferenceIdeal Cert.ReferenceIdeal.Gen
open Idealize.ShloMosaic Idealize.ShloMosaic.TcCoe Idealize.SL.Sem
open Cert.PairTopK

/-! ## The operations -/

section Ops
variable {F : FTy → Type} [FloatOps F]

/-- The first eight column numbers of each row in the order of the negated row. -/
def picks (x : FVec F S256x2048 .f32) : IVec S256x8 32 :=
  extractStridedSlice S256x8 ![0, 0] ((Host.sort2 S256x2048 1 comparator_f32_i32_d1 (Host.negf x) (iotaInDim S256x2048 32 1)).2) slices_S256x2048_S256x8_0_0

/-- Column numbers, the negative ones counted from the end, as start indices. -/
def starts (i : IVec S256x8 32) : IVec S256x8x1 32 :=
  shapeCast S256x8x1 (select (cmpi .slt i (broadcastInDim S256x8 ![] bcast_S_S256x8 (constantI S_ 32 0#32)))
    (addi i (broadcastInDim S256x8 ![] bcast_S_S256x8 (constantI S_ 32 2048#32))) i) shapeCasts_S256x8_S256x8x1

/-- Which start indices lie in the row. -/
def inRow (w : IVec S256x8x1 32) : IVec S256x8 1 :=
  Host.reduce IntOp.andi (andi (cmpi .sge w (broadcastInDim S256x8x1 ![] bcast_S_S256x8x1 (constantI S_ 32 0#32)))
    (cmpi .sle w (broadcastInDim S256x8x1 ![0, 1, 2] bcast_S1x1x1_S256x8x1_0_1_2 (broadcastInDim S1x1x1 ![2] bcast_S1_S1x1x1_2 (constantI S1 32 2047#32)))))
    (constantI S_ 1 1#1) reducesTo_S256x8x1_S256x8_d2 h_S_

/-- The row read at the column numbers, a NaN where they leave it. -/
def taken (x : FVec F S256x2048 .f32) (i : IVec S256x8 32) : FVec F S256x8 .f32 :=
  select (inRow (starts i)) (Host.gather gather_S256x2048_S256x8x1_S256x8_n_1_0_0_1_2_11 x (starts i))
    (broadcastInDim S256x8 ![] bcast_S_S256x8 (constant S_ .f32 0x7FC00000#32))

end Ops

/-- Every execution of the reference ends, its result at `taken` of its operand's `picks`, the operand as it was. -/
theorem run_taken {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = taken (m ((c.tc : Thread nD τ).loc main_arg0)) (picks (m ((c.tc : Thread nD τ).loc main_arg0)))
      ∧ r.2.mem ((c.tc : Thread nD τ).loc main_arg0) = m ((c.tc : Thread nD τ).loc main_arg0) :=
  Cert.ReferenceIdeal.Value.run m ρ

/-! ## Reading at column numbers in the row -/

section Read
variable {i : IVec S256x8 32} {r : Fin 256} {j : Fin 8} {k : Fin 2048}

theorem toInt_col (k : Fin 2048) : (BitVec.ofNat 32 k.val).toInt = k.val := toInt_small (lt_trans k.isLt (by norm_num))

theorem starts_apply (h : i (ix2 r j) = BitVec.ofNat 32 k.val) : starts i (ix3 r j (0 : Fin 1)) = BitVec.ofNat 32 k.val := by
  unfold starts
  rw [shapeCast_apply _ _ (ix3 r j (0 : Fin 1)) (ix2 r j) (by rw [Shape.rowMajor_val_two, Shape.rowMajor_val_three]; simp)]
  show (if IntOp.cmpi .slt (i (ix2 r j)) 0#32 = 1#1 then _ else i (ix2 r j)) = _
  rw [if_neg, h]
  rw [h]
  intro he
  have hs : (BitVec.ofNat 32 k.val).slt 0#32 = false := by
    rw [BitVec.slt, toInt_col]
    exact decide_eq_false (by simp)
  exact absurd ((congrArg BitVec.ofBool hs).symm.trans he) (by decide)

theorem inRow_apply {w : IVec S256x8x1 32} (h : w (ix3 r j (0 : Fin 1)) = BitVec.ofNat 32 k.val) : inRow w (ix2 r j) = 1#1 := by
  have hred : S256x8x1.Reduces [2] S256x8 := by decide
  refine (Host.reduce_eq_fold_single IntOp.andi _ _ reducesTo_S256x8x1_S256x8_d2 hred h_S_ (ix2 r j)).trans ?_
  have hlift : hred.lift (ix2 r j) (0 : Fin 1) = ix3 r j (0 : Fin 1) := by
    funext a
    fin_cases a <;> rfl
  have hone : ∀ f : Fin 1 → BitVec 1, Finset.fold IntOp.andi 1#1 f Finset.univ = IntOp.andi (f 0) 1#1 := fun f => by
    rw [Finset.univ_unique, Finset.fold_singleton]
    rfl
  refine (hone _).trans ?_
  show IntOp.andi (IntOp.andi (IntOp.cmpi .sge (w (hred.lift (ix2 r j) (0 : Fin 1))) 0#32) (IntOp.cmpi .sle (w (hred.lift (ix2 r j) (0 : Fin 1))) 2047#32)) 1#1 = 1#1
  rw [hlift, h]
  have h1 : IntOp.cmpi .sge (BitVec.ofNat 32 k.val) 0#32 = 1#1 := by
    refine congrArg BitVec.ofBool (?_ : _ = true)
    simp [BitVec.sle, toInt_col]
  have h2 : IntOp.cmpi .sle (BitVec.ofNat 32 k.val) 2047#32 = 1#1 := by
    refine congrArg BitVec.ofBool (?_ : _ = true)
    have : (2047#32 : BitVec 32).toInt = 2047 := by decide
    simp only [BitVec.sle, toInt_col, this, decide_eq_true_eq]
    have := k.isLt
    omega
  rw [h1, h2]; decide

/-- The gather reads the row at a column number lying in it. -/
theorem gather_apply {α : Type} (x : S256x2048.Idx → α) {w : IVec S256x8x1 32} (h : w (ix3 r j (0 : Fin 1)) = BitVec.ofNat 32 k.val) :
    Host.gather gather_S256x2048_S256x8x1_S256x8_n_1_0_0_1_2_11 x w (ix2 r j) = x (ix2 r k) := by
  unfold Host.gather
  refine congrArg x (funext fun a => Fin.ext ?_)
  generalize hd : gather_S256x2048_S256x8x1_S256x8_n_1_0_0_1_2_11 = d
  have hc : d.collapsedSliceDims = [1] := hd ▸ rfl
  have hb : d.operandBatchingDims = [0] := hd ▸ rfl
  show d.start (ix2 r j) w a + d.batchCoord (ix2 r j) a + d.offCoord (ix2 r j) a = (ix2 r k a).val
  have hk : d.offCoord (ix2 r j) a = 0 := GatherDims.offCoord_eq_zero _ _ _ fun hm => by
    have hm := (GatherDims.mem_sKept _ _).mp hm
    rw [hc, hb] at hm
    match a, hm with
    | ⟨0, _⟩, hm => exact hm.2 (List.mem_singleton.mpr rfl)
    | ⟨1, _⟩, hm => exact hm.1 (List.mem_singleton.mpr rfl)
  rw [hk, Nat.add_zero]
  match a with
  | ⟨0, _⟩ =>
    rw [GatherDims.start_batching _ _ _ _ (hb ▸ List.mem_singleton.mpr rfl), Nat.zero_add]
    subst hd
    rfl
  | ⟨1, _⟩ =>
    rw [GatherDims.batchCoord_eq_zero _ _ _ (fun hm => by rw [hb] at hm; exact absurd (List.mem_singleton.mp hm) (fun h => absurd (congrArg Fin.val h) Nat.one_ne_zero)), Nat.add_zero]
    subst hd
    unfold GatherDims.start
    rw [dif_pos (show (⟨1, by decide⟩ : Fin S256x2048.rank) ∈ gather_S256x2048_S256x8x1_S256x8_n_1_0_0_1_2_11.startIndexMap from List.mem_singleton.mpr rfl)]
    have hs : ∀ q, gather_S256x2048_S256x8x1_S256x8_n_1_0_0_1_2_11.siIdx (ix2 r j) q = ix3 r j (0 : Fin 1) := by
      intro q
      have hq : q = ⟨0, Nat.one_pos⟩ := Fin.ext (Nat.lt_one_iff.mp q.isLt)
      subst hq
      funext b
      match b with
      | ⟨0, _⟩ => rfl
      | ⟨1, _⟩ => rfl
      | ⟨2, _⟩ => rfl
    rw [hs, h, toInt_col]
    show min k.val (2048 - 1) = k.val
    have := k.isLt
    omega

/-- Where the column number of a result entry lies in the row, the entry is the row's there. -/
theorem taken_apply {F : FTy → Type} [FloatOps F] (x : FVec F S256x2048 .f32) (h : i (ix2 r j) = BitVec.ofNat 32 k.val) :
    taken x i (ix2 r j) = x (ix2 r k) := by
  have hs := starts_apply h
  unfold taken
  show (if inRow (starts i) (ix2 r j) = 1#1 then _ else _) = _
  rw [if_pos (inRow_apply hs)]
  exact gather_apply x hs

end Read

/-! ## The sorted column numbers -/

/-- Over the extended reals the sort's comparison of two pairs is "less than" of their first members: making the zeros
    one zero and the NaNs one NaN changes nothing there. -/
theorem comparator_ideal (a b : EReal × BitVec 32) : comparator_f32_i32_d1 (F := Ideal) a b = Ideal.cmp .olt a.1 b.1 := by
  have key : ∀ v : EReal, Scalar.select (Ideal.cmp .une v v) (Ideal.ofBits .f32 0x7FC00000#32)
      (Scalar.select (Ideal.cmp .oeq v (Ideal.ofBits .f32 0x00000000#32)) (Ideal.ofBits .f32 0x00000000#32) v) = v := by
    intro v
    have hz : Ideal.ofBits .f32 0x00000000#32 = 0 := by simp [Ideal.ofBits, Ideal.ieee]
    rw [hz]
    by_cases h : v = 0 <;> simp [Scalar.select, Ideal.cmp, h]
  exact congrArg₂ (Ideal.cmp .olt) (key a.1) (key b.1)

/-- Entry `k` goes before entry `k'` in the order of the negated row `f`. -/
def before {n : Nat} (f : Fin n → EReal) (k k' : Fin n) : Bool := decide (-f k < -f k')

/-- The column at each place of the order. -/
def order {n : Nat} (f : Fin n → EReal) : Fin n → Fin n := sortedFrom (before f)

theorem order_antitone {n : Nat} (f : Fin n → EReal) : Antitone (f ∘ order f) := by
  intro i j hij
  rcases hij.eq_or_lt with rfl | hlt
  · exact le_rfl
  have h := sortedFrom_noInversion (before f) (before f)
    (fun a b h => decide_eq_false (not_lt.mpr (of_decide_eq_true h).le)) (fun _ _ h => h)
    (fun a b c h h' => decide_eq_false (not_lt.mpr ((not_lt.mp (of_decide_eq_false h')).trans (not_lt.mp (of_decide_eq_false h))))) i j hlt
  exact EReal.neg_le_neg_iff.mp (not_lt.mp (of_decide_eq_false h))

/-- A row read in the order has its entry of rank `t` at place `t`. -/
theorem order_rank {n : Nat} (f : Fin n → EReal) (t : Fin n) : IsRank f t.val (f (order f t)) := by
  have hb : Function.Bijective (order f) := ⟨sortedFrom_injective _, sortedFrom_surjective _⟩
  exact (isRank_comp_equiv (f := f) (Equiv.ofBijective _ hb)).mp (isRank_of_antitone (f ∘ order f) (order_antitone f) t)

/-- The place in the whole order of a result entry. -/
def place (j : Fin 8) : Fin 2048 := j.castLE (by norm_num)

theorem picks_apply (x : FVec Ideal S256x2048 .f32) (r : Fin 256) (j : Fin 8) :
    picks x (ix2 r j) = BitVec.ofNat 32 (order (rowOf (n := 2048) (α := EReal) x r) (place j)).val := by
  unfold picks
  refine (extractStridedSlice_apply (k := ix2 r (place j)) _ _ _ _ ?_).trans ?_
  · intro a
    match a with
    | ⟨0, _⟩ => exact (Nat.zero_add _).symm
    | ⟨1, _⟩ => exact (Nat.zero_add _).symm
  have hal : ∀ k : Fin 2048, Shape.Idx.along (s := S256x2048) (ix2 r (place j)) 1 k = ix2 r k := by
    intro k
    funext a
    match a with
    | ⟨0, _⟩ => rfl
    | ⟨1, _⟩ => rfl
  have hbef : (fun k k' : Fin 2048 => comparator_f32_i32_d1 (F := Ideal)
        (Host.negf x (Shape.Idx.along (s := S256x2048) (ix2 r (place j)) 1 k), iotaInDim S256x2048 32 1 (Shape.Idx.along (s := S256x2048) (ix2 r (place j)) 1 k))
        (Host.negf x (Shape.Idx.along (s := S256x2048) (ix2 r (place j)) 1 k'), iotaInDim S256x2048 32 1 (Shape.Idx.along (s := S256x2048) (ix2 r (place j)) 1 k')) == 1#1)
      = before (rowOf (n := 2048) (α := EReal) x r) := by
    funext k k'
    rw [comparator_ideal, hal, hal]
    show (BitVec.ofBool (decide (-x (ix2 r k) < -x (ix2 r k'))) == 1#1) = decide (-x (ix2 r k) < -x (ix2 r k'))
    generalize decide (-x (ix2 r k) < -x (ix2 r k')) = b
    cases b <;> rfl
  show iotaInDim S256x2048 32 1 (Shape.Idx.along (s := S256x2048) (ix2 r (place j)) 1 (sortedFrom _ (place j))) = _
  refine (congrArg (fun R => iotaInDim S256x2048 32 1 (Shape.Idx.along (s := S256x2048) (ix2 r (place j)) 1 (sortedFrom R (place j)))) hbef).trans ?_
  have hnum : ∀ k : Fin 2048, iotaInDim S256x2048 32 1 (Shape.Idx.along (s := S256x2048) (ix2 r (place j)) 1 k) = BitVec.ofNat 32 k.val :=
    fun k => by rw [hal]; rfl
  exact hnum _

/-- Entry `j` of the reference's result is the row's entry of rank `j`. -/
theorem taken_rank (x : FVec Ideal S256x2048 .f32) (r : Fin 256) (j : Fin 8) :
    IsRank (rowOf (n := 2048) (α := EReal) x r) j.val (taken x (picks x) (ix2 r j)) := by
  rw [taken_apply x (picks_apply x r j)]
  exact order_rank (rowOf (n := 2048) (α := EReal) x r) (place j)

end Cert.PairTopK.Ref

end
-- ==== Proof.Halves.lean ====
/-
The two halves of a row: a device and its partner hold one half each, so ranks in the two blocks together are ranks in
the whole row; and the value of the kernel is therefore the value of the reference.
-/
module

public import proofs.«01_k».proof.Proof.Payload
public import proofs.«01_k».proof.Proof.Taken
public import Idealize.ShloMosaic.Lib.Layout

@[expose] public section

noncomputable section

namespace Cert.PairTopK

open Cert.KernelIdeal Cert.KernelIdeal.Gen
open Idealize.ShloMosaic Idealize.ShloMosaic.TcCoe

/-! ## Ranks in two halves -/

section Halves
variable {α : Type} [LinearOrder α] {n N : ℕ}

/-- Ranks in two families together, the first the first half of a family and the second its second half, are ranks in
    that family. -/
theorem isRank_halves {f : Fin N → α} {g h : Fin n → α} (hN : n + n = N) (hg : ∀ (k : Fin n) (q : Fin N), q.val = k.val → g k = f q)
    (hh : ∀ (k : Fin n) (q : Fin N), q.val = n + k.val → h k = f q) {t : ℕ} {a : α} : IsRank (Sum.elim g h) t a ↔ IsRank f t a := by
  subst hN
  have e : Sum.elim g h = f ∘ finSumFinEquiv := by
    funext s
    rcases s with k | k
    · exact hg k _ rfl
    · exact hh k _ rfl
  rw [e]
  exact isRank_comp_equiv _

/-- The order of the two families does not matter. -/
theorem isRank_swap {g h : Fin n → α} {t : ℕ} {a : α} : IsRank (Sum.elim g h) t a ↔ IsRank (Sum.elim h g) t a := by
  have e : Sum.elim h g = Sum.elim g h ∘ Equiv.sumComm _ _ := by
    funext s
    rcases s with k | k <;> rfl
  rw [e]
  exact (isRank_comp_equiv _).symm

end Halves

/-! ## The blocks -/

/-- The part of a whole operand that a device holds. -/
def halfOf (c : Dev nD) (x : FVec Ideal ⟨2, ![256, 2048]⟩ .f32) : FVec Ideal S256x1024 .f32 :=
  Layout.blockN ⟨2, ![256, 1024]⟩ ⟨2, ![256, 2048]⟩ (Layout.meshBlock [2, 2, 4] ![[], [1]] c) x

/-- Which half of every row it is. -/
def half (c : Dev nD) : ℕ := c.val / 4 % 2

theorem halfOf_row (c : Dev nD) (x : FVec Ideal ⟨2, ![256, 2048]⟩ .f32) (r : Fin 256) (k : Fin 1024) (q : Fin 2048) (h : q.val = half c * 1024 + k.val) :
    rowOf (n := 1024) (α := EReal) (halfOf c x) r k = rowOf (n := 2048) (α := EReal) x r q := by
  unfold rowOf halfOf
  rw [Layout.blockN_apply]
  refine congrArg x (funext fun a => Fin.ext ?_)
  rw [Layout.TilesN.idx_val]
  match a with
  | ⟨0, _⟩ => exact (congrArg (· + r.val) (Nat.zero_mul _)).trans (Nat.zero_add _)
  | ⟨1, _⟩ =>
    refine Eq.trans ?_ h.symm
    show Layout.meshLin [2, 2, 4] c.val [1] * 1024 + k.val = half c * 1024 + k.val
    refine congrArg (fun z => z * 1024 + k.val) ?_
    show c.val / 4 % 2 * 1 + 0 = c.val / 4 % 2
    rw [Nat.mul_one, Nat.add_zero]

theorem half_partner (c : Dev nD) : half (partner c) = 1 - half c := by
  unfold half
  rw [partner_val]
  have := c.isLt
  have h : (nD : ℕ) = 16 := rfl
  omega

/-- Ranks in the rows of a device's part and its partner's together are ranks in the whole rows. -/
theorem halfOf_rank (c : Dev nD) (x : FVec Ideal ⟨2, ![256, 2048]⟩ .f32) (r : Fin 256) {t : ℕ} {a : EReal} :
    IsRank (Sum.elim (rowOf (n := 1024) (α := EReal) (halfOf c x) r) (rowOf (n := 1024) (α := EReal) (halfOf (partner c) x) r)) t a
      ↔ IsRank (rowOf (n := 2048) (α := EReal) x r) t a := by
  have hp := half_partner c
  have h2 : half c = 0 ∨ half c = 1 := Nat.mod_two_eq_zero_or_one _
  have first : ∀ d : Dev nD, half d = 0 → ∀ (k : Fin 1024) (q : Fin 2048), q.val = k.val →
      rowOf (n := 1024) (α := EReal) (halfOf d x) r k = rowOf (n := 2048) (α := EReal) x r q :=
    fun d hd k q hq => halfOf_row d x r k q (by rw [hd, Nat.zero_mul, Nat.zero_add]; exact hq)
  have second : ∀ d : Dev nD, half d = 1 → ∀ (k : Fin 1024) (q : Fin 2048), q.val = 1024 + k.val →
      rowOf (n := 1024) (α := EReal) (halfOf d x) r k = rowOf (n := 2048) (α := EReal) x r q :=
    fun d hd k q hq => halfOf_row d x r k q (by rw [hd, Nat.one_mul]; exact hq)
  rcases h2 with h | h
  · rw [h] at hp
    exact isRank_halves (by norm_num) (first c h) (second (partner c) hp)
  · rw [h] at hp
    exact isRank_swap.trans (isRank_halves (by norm_num) (first (partner c) hp) (second c h))

/-! ## The value -/

/-- The kernel's value on the parts of an operand is the reference's value on the operand. -/
theorem merge_halves (c : Dev nD) (x : FVec Ideal ⟨2, ![256, 2048]⟩ .f32) :
    merge (localTop (halfOf c x)) (localTop (halfOf (partner c) x)) = Ref.taken x (Ref.picks x) := by
  funext i
  obtain ⟨r, j, rfl⟩ : ∃ (r : Fin 256) (j : Fin 8), i = ix2 r j := ⟨i 0, i 1, funext fun a => by
    match a with
    | ⟨0, _⟩ => rfl
    | ⟨1, _⟩ => rfl⟩
  exact ((halfOf_rank c x r).mp (merge_rank (halfOf c x) (halfOf (partner c) x) r j)).unique (Ref.taken_rank x r j)

end Cert.PairTopK

end
-- ==== Proof.lean ====
/-
The proof of `Cert.Claim`: the runs of Run.lean give the frames, and the values of Halves.lean the algebraic claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Halves
public import Idealize.ShloMosaic.Adequacy
public import Idealize.ShloMosaic.Init

@[expose] public section

noncomputable section

/-! The certificate: the kernel and the reference run to the end, and over the extended reals every device's result is
the reference's. -/

namespace Cert.Proof

open Idealize.ShloMosaic Idealize.ShloMosaic.TcCoe Idealize.SL.Sem
open Cert.PairTopK

/-- At either instance of the floats the kernel runs on every device to the end, its operand unchanged and its
    semaphores back at zero. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0 :=
  (θ_run Cert.KernelIdeal.defs _ _).mono (fun _ h => ⟨fun c => (h.1 c (0 : Fin 2)).trans (final_operand m c), h.2⟩) (run_main m ρ)

/-- The kernel's body table and its idealization's are the same: the two have the same text. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l ts
  match l, ts with
  | 0, (t, s) => rfl

/-- So are the tables with the launch's own labels. -/
theorem tables_eq {F : FTy → Type} [FloatOps F] : Cert.Kernel.defs (F := F) = Cert.KernelIdeal.defs (F := F) :=
  congrArg (Pipeline.defs Cert.KernelIdeal.pcfgs) bodies_eq

/-- The kernel as printed. -/
theorem frame_kernel : Cert.quiescent_Kernel := fun m ρ _ => by
  rw [tables_eq]
  exact frame_run (F := Bits) m ρ

/-- Its idealization. -/
theorem frame_ideal : Cert.quiescent_KernelIdeal := fun m ρ _ => frame_run (F := Ideal) m ρ

/-- The reference runs to the end, its operand unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (Ref.run_taken (F := Ideal) m ρ)

/-- Over the extended reals, from memories whose devices hold their parts of the reference's operand, every device's
    result ends as the reference's result, and the operands end unchanged. -/
theorem algebraic : Cert.algebraic_KernelIdeal_ReferenceIdeal := by
  intro m ρ m' ρ' _ hparts
  refine ⟨Ref.taken (F := Ideal) (m' (((0 : Dev Cert.ReferenceIdeal.nD).tc : Thread Cert.ReferenceIdeal.nD Cert.ReferenceIdeal.τ).loc Cert.ReferenceIdeal.main_arg0))
      (Ref.picks (F := Ideal) (m' (((0 : Dev Cert.ReferenceIdeal.nD).tc : Thread Cert.ReferenceIdeal.nD Cert.ReferenceIdeal.τ).loc Cert.ReferenceIdeal.main_arg0))), ?_, ?_⟩
  · refine (θ_run Cert.KernelIdeal.defs _ _).mono (fun r h c => ⟨?_, (h.1 c (0 : Fin 2)).trans (final_operand m c)⟩) (run_main (F := Ideal) m ρ)
    have hblock : ∀ d, block m d = halfOf d (m' (((0 : Dev Cert.ReferenceIdeal.nD).tc : Thread Cert.ReferenceIdeal.nD Cert.ReferenceIdeal.τ).loc Cert.ReferenceIdeal.main_arg0)) :=
      fun d => (block_eq m d).trans (hparts d)
    refine ((h.1 c (1 : Fin 2)).trans (final_result m c)).trans ?_
    unfold result
    rw [hblock, hblock]
    exact merge_halves c _
  · exact (θ_run Cert.ReferenceIdeal.defs _ _).mono (fun r h => h 0) (Ref.run_taken (F := Ideal) m' ρ')

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
